-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v8)) (v2 : (c : Dev Cert.KernelIdeal.nD) → Buf (Elt Ideal) ((c.tc : Thread Cert.KernelIdeal.nD Cert.KernelIdeal.τ).loc Cert.KernelIdeal.main_v9)) (v3 : (c : Dev Cert.KernelIdeal.nD) → Buf (Elt Ideal) ((c.tc : Thread Cert.KernelIdeal.nD Cert.KernelIdeal.τ).loc Cert.KernelIdeal.main_v10)) (v4 : (c : Dev Cert.KernelIdeal.nD) → Buf (Elt Ideal) ((c.tc : Thread Cert.KernelIdeal.nD Cert.KernelIdeal.τ).loc Cert.KernelIdeal.main_v11)) (v5 : (c : Dev Cert.KernelIdeal.nD) → Buf (Elt Ideal) ((c.tc : Thread Cert.KernelIdeal.nD Cert.KernelIdeal.τ).loc Cert.KernelIdeal.main_v12)) (v6 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_v9) = v2 c
          ∧ r.2.mem ((c.tc : Thread Cert.KernelIdeal.nD Cert.KernelIdeal.τ).loc Cert.KernelIdeal.main_v10) = v3 c
          ∧ r.2.mem ((c.tc : Thread Cert.KernelIdeal.nD Cert.KernelIdeal.τ).loc Cert.KernelIdeal.main_v11) = v4 c
          ∧ r.2.mem ((c.tc : Thread Cert.KernelIdeal.nD Cert.KernelIdeal.τ).loc Cert.KernelIdeal.main_v12) = v5 c
          ∧ r.2.mem ((c.tc : Thread Cert.KernelIdeal.nD Cert.KernelIdeal.τ).loc Cert.KernelIdeal.main_v13) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_v11) = v2 c
          ∧ r.2.mem ((c.tc : Thread Cert.ReferenceIdeal.nD Cert.ReferenceIdeal.τ).loc Cert.ReferenceIdeal.main_v15_2) = v3 c
          ∧ r.2.mem ((c.tc : Thread Cert.ReferenceIdeal.nD Cert.ReferenceIdeal.τ).loc Cert.ReferenceIdeal.main_v18) = v4 c
          ∧ r.2.mem ((c.tc : Thread Cert.ReferenceIdeal.nD Cert.ReferenceIdeal.τ).loc Cert.ReferenceIdeal.main_v19) = v5 c
          ∧ r.2.mem ((c.tc : Thread Cert.ReferenceIdeal.nD Cert.ReferenceIdeal.τ).loc Cert.ReferenceIdeal.main_v20) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x512x7168 : Shape := ⟨3, ![16, 512, 7168]⟩
abbrev S7168x2112 : Shape := ⟨2, ![7168, 2112]⟩
abbrev S7168 : Shape := ⟨1, ![7168]⟩
abbrev S2112 : Shape := ⟨1, ![2112]⟩
abbrev S8192x7168 : Shape := ⟨2, ![8192, 7168]⟩
abbrev S2112x7168 : Shape := ⟨2, ![2112, 7168]⟩
abbrev S1x7168 : Shape := ⟨2, ![1, 7168]⟩
abbrev S512x7168 : Shape := ⟨2, ![512, 7168]⟩
abbrev S2112x1 : Shape := ⟨2, ![2112, 1]⟩
abbrev S192x7168 : Shape := ⟨2, ![192, 7168]⟩
abbrev S192x1 : Shape := ⟨2, ![192, 1]⟩
abbrev S192 : Shape := ⟨1, ![192]⟩
abbrev S16x2112x512 : Shape := ⟨3, ![16, 2112, 512]⟩
abbrev S32x1x256 : Shape := ⟨3, ![32, 1, 256]⟩
abbrev S256x7168 : Shape := ⟨2, ![256, 7168]⟩
abbrev S1x2112x256 : Shape := ⟨3, ![1, 2112, 256]⟩
abbrev S1x1x256 : Shape := ⟨3, ![1, 1, 256]⟩
abbrev S2112x256 : Shape := ⟨2, ![2112, 256]⟩
abbrev S256x128 : Shape := ⟨2, ![256, 128]⟩
abbrev S32x7168 : Shape := ⟨2, ![32, 7168]⟩
abbrev S32 : Shape := ⟨1, ![32]⟩
abbrev S32x1 : Shape := ⟨2, ![32, 1]⟩
abbrev S32x128 : Shape := ⟨2, ![32, 128]⟩
abbrev S128x256 : Shape := ⟨2, ![128, 256]⟩
abbrev S1x256 : Shape := ⟨2, ![1, 256]⟩
abbrev S352x7168 : Shape := ⟨2, ![352, 7168]⟩
abbrev S352x256 : Shape := ⟨2, ![352, 256]⟩
abbrev S352x1 : Shape := ⟨2, ![352, 1]⟩
abbrev S256 : Shape := ⟨1, ![256]⟩
abbrev S1x352x256 : Shape := ⟨3, ![1, 352, 256]⟩
abbrev S16x512x2112 : Shape := ⟨3, ![16, 512, 2112]⟩
abbrev S16x512 : Shape := ⟨2, ![16, 512]⟩

abbrev nBuf : Space → Nat
  | .hbm => 23
  | .vmem => 31
  | .smem => 0
  | _ => 0

abbrev bufTy : (tb : Table) → Fin (tcTables nBuf tb) → BufTy
  | .hbm, ⟨0, _⟩ => ⟨S16x512x7168, .bf16⟩
  | .hbm, ⟨1, _⟩ => ⟨S7168x2112, .bf16⟩
  | .hbm, ⟨2, _⟩ => ⟨S7168, .f32⟩
  | .hbm, ⟨3, _⟩ => ⟨S2112, .f32⟩
  | .hbm, ⟨4, _⟩ => ⟨S8192x7168, .bf16⟩
  | .hbm, ⟨5, _⟩ => ⟨S2112x7168, .bf16⟩
  | .hbm, ⟨6, _⟩ => ⟨S1x7168, .f32⟩
  | .hbm, ⟨7, _⟩ => ⟨S1x7168, .f32⟩
  | .hbm, ⟨8, _⟩ => ⟨S2112x7168, .i8⟩
  | .hbm, ⟨9, _⟩ => ⟨S2112x7168, .bf16⟩
  | .hbm, ⟨10, _⟩ => ⟨S2112x1, .f32⟩
  | .hbm, ⟨11, _⟩ => ⟨S2112x1, .f32⟩
  | .hbm, ⟨12, _⟩ => ⟨S16x2112x512, .i8⟩
  | .hbm, ⟨13, _⟩ => ⟨S32x1x256, .f32⟩
  | .hbm, ⟨14, _⟩ => ⟨S8192x7168, .i8⟩
  | .hbm, ⟨15, _⟩ => ⟨S32x1x256, .f32⟩
  | .hbm, ⟨16, _⟩ => ⟨S16x512x2112, .i8⟩
  | .hbm, ⟨17, _⟩ => ⟨S16x512, .f32⟩
  | .hbm, ⟨18, _⟩ => ⟨S7168, .f32⟩
  | .hbm, ⟨19, _⟩ => ⟨S7168x2112, .i8⟩
  | .hbm, ⟨20, _⟩ => ⟨S2112, .f32⟩
  | .hbm, ⟨21, _⟩ => ⟨S16x512x7168, .i8⟩
  | .hbm, ⟨22, _⟩ => ⟨S16x512, .f32⟩
  | .local _ .vmem, ⟨0, _⟩ => ⟨S512x7168, .bf16⟩
  | .local _ .vmem, ⟨1, _⟩ => ⟨S512x7168, .bf16⟩
  | .local _ .vmem, ⟨2, _⟩ => ⟨S1x7168, .f32⟩
  | .local _ .vmem, ⟨3, _⟩ => ⟨S1x7168, .f32⟩
  | .local _ .vmem, ⟨4, _⟩ => ⟨S1x7168, .bf16⟩
  | .local _ .vmem, ⟨5, _⟩ => ⟨S192x7168, .bf16⟩
  | .local _ .vmem, ⟨6, _⟩ => ⟨S192x7168, .bf16⟩
  | .local _ .vmem, ⟨7, _⟩ => ⟨S1x7168, .f32⟩
  | .local _ .vmem, ⟨8, _⟩ => ⟨S192x7168, .i8⟩
  | .local _ .vmem, ⟨9, _⟩ => ⟨S192x7168, .i8⟩
  | .local _ .vmem, ⟨10, _⟩ => ⟨S192x7168, .bf16⟩
  | .local _ .vmem, ⟨11, _⟩ => ⟨S192x7168, .bf16⟩
  | .local _ .vmem, ⟨12, _⟩ => ⟨S192x1, .f32⟩
  | .local _ .vmem, ⟨13, _⟩ => ⟨S192x1, .f32⟩
  | .local _ .vmem, ⟨14, _⟩ => ⟨S256x7168, .bf16⟩
  | .local _ .vmem, ⟨15, _⟩ => ⟨S256x7168, .bf16⟩
  | .local _ .vmem, ⟨16, _⟩ => ⟨S1x7168, .f32⟩
  | .local _ .vmem, ⟨17, _⟩ => ⟨S2112x7168, .bf16⟩
  | .local _ .vmem, ⟨18, _⟩ => ⟨S2112x1, .f32⟩
  | .local _ .vmem, ⟨19, _⟩ => ⟨S2112x1, .f32⟩
  | .local _ .vmem, ⟨20, _⟩ => ⟨S1x2112x256, .i8⟩
  | .local _ .vmem, ⟨21, _⟩ => ⟨S1x2112x256, .i8⟩
  | .local _ .vmem, ⟨22, _⟩ => ⟨S1x1x256, .f32⟩
  | .local _ .vmem, ⟨23, _⟩ => ⟨S1x1x256, .f32⟩
  | .local _ .vmem, ⟨24, _⟩ => ⟨S256x7168, .i8⟩
  | .local _ .vmem, ⟨25, _⟩ => ⟨S256x7168, .i8⟩
  | .local _ .vmem, ⟨26, _⟩ => ⟨S1x1x256, .f32⟩
  | .local _ .vmem, ⟨27, _⟩ => ⟨S1x1x256, .f32⟩
  | .local _ .vmem, ⟨28, _⟩ => ⟨S256x7168, .bf16⟩
  | .local _ .vmem, ⟨29, _⟩ => ⟨S2112x256, .f32⟩
  | .local _ .vmem, ⟨30, _⟩ => ⟨S256x128, .f32⟩
  | _, _ => ⟨S16x512x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg5_1 : Ref sig .tc := ⟨.vmem, 21, rfl⟩
abbrev cc2_stg6_0 : Ref sig .tc := ⟨.vmem, 22, rfl⟩
abbrev cc2_stg6_1 : Ref sig .tc := ⟨.vmem, 23, rfl⟩
abbrev cc2_stg7_0 : Ref sig .tc := ⟨.vmem, 24, rfl⟩
abbrev cc2_stg7_1 : Ref sig .tc := ⟨.vmem, 25, rfl⟩
abbrev cc2_stg8_0 : Ref sig .tc := ⟨.vmem, 26, rfl⟩
abbrev cc2_stg8_1 : Ref sig .tc := ⟨.vmem, 27, rfl⟩
abbrev cc2_scratch0 : Ref sig .tc := ⟨.vmem, 28, rfl⟩
abbrev cc2_scratch1 : Ref sig .tc := ⟨.vmem, 29, rfl⟩
abbrev cc2_scratch2 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8
abbrev cc1_sem3_0 : DmaSem sig := 9
abbrev cc1_sem3_1 : DmaSem sig := 10
abbrev cc1_sem4_0 : DmaSem sig := 11
abbrev cc1_sem4_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem5_1 : DmaSem sig := 20
abbrev cc2_sem6_0 : DmaSem sig := 21
abbrev cc2_sem6_1 : DmaSem sig := 22
abbrev cc2_sem7_0 : DmaSem sig := 23
abbrev cc2_sem7_1 : DmaSem sig := 24
abbrev cc2_sem8_0 : DmaSem sig := 25
abbrev cc2_sem8_1 : DmaSem sig := 26

abbrev nD : Nat := 1
abbrev τ : Topo := Topo.v7x

variable {F : FTy → Type} [FloatOps F]

abbrev grid0 : Pipeline.Grid := ⟨1, ![16], ![false]⟩

def k0_cond3 (i : grid0.Coords) : BitVec 1 :=
  let arg0 : BitVec 32 := BitVec.ofNat 32 (i 0).val
  let c15_i32 : BitVec 32 := 15#32
  let v11 : BitVec 1 := Scalar.cmpi .eq arg0 c15_i32
  let v12 : BitVec 32 := Scalar.extui v11
  let c0_i32_4 : BitVec 32 := 0#32
  let v13 : BitVec 1 := Scalar.cmpi .ne v12 c0_i32_4
  v13

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x7168 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x7168 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![11], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S192x7168 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x7168 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S192x7168 .i8 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S192x7168 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S192x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![32], ![false]⟩

@[reducible] def k2_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k2_off1 (k2_t1 : Fin k2_t1_loop.trips) : Fin 2 → Nat :=
  let c0_i32 : BitVec 32 := 0#32
  let c1_i32 : BitVec 32 := 1#32
  let arg13 : BitVec 32 := Scf.iv c0_i32 c1_i32 k2_t1
  let c32_i32 : BitVec 32 := 32#32
  let v20 : BitVec 32 := Scalar.muli arg13 c32_i32
  let v21 : Index := Scalar.indexCast v20
  let c0_18 : Index := 0#32
  ![v21.toNat, 0]
def k2_off2 (k2_t1 : Fin k2_t1_loop.trips) : Fin 2 → Nat :=
  let c0_i32 : BitVec 32 := 0#32
  let c1_i32 : BitVec 32 := 1#32
  let arg13 : BitVec 32 := Scf.iv c0_i32 c1_i32 k2_t1
  let c32_i32 : BitVec 32 := 32#32
  let v20 : BitVec 32 := Scalar.muli arg13 c32_i32
  let v55 : Index := Scalar.indexCast v20
  let c0_29 : Index := 0#32
  ![v55.toNat, 0]
@[reducible] def k2_t2_loop : Scf.Loop 32 :=
  let c0_i32_5 : BitVec 32 := 0#32
  let c6_i32 : BitVec 32 := 6#32
  let v8 : BitVec 32 := Scalar.addi c0_i32_5 c6_i32
  let c1_i32_6 : BitVec 32 := 1#32
  ⟨c0_i32_5, v8, c1_i32_6⟩
def k2_mult1 (k2_t2 : Fin k2_t2_loop.trips) : BitVec 32 :=
  let c0_i32_5 : BitVec 32 := 0#32
  let c1_i32_6 : BitVec 32 := 1#32
  let arg13 : BitVec 32 := Scf.iv c0_i32_5 c1_i32_6 k2_t2
  let c352_i32 : BitVec 32 := 352#32
  let v20 : BitVec 32 := Scalar.muli arg13 c352_i32
  v20
def k2_off3 (k2_t2 : Fin k2_t2_loop.trips) : Fin 2 → Nat :=
  let c0_i32_5 : BitVec 32 := 0#32
  let c1_i32_6 : BitVec 32 := 1#32
  let arg13 : BitVec 32 := Scf.iv c0_i32_5 c1_i32_6 k2_t2
  let c352_i32 : BitVec 32 := 352#32
  let v20 : BitVec 32 := Scalar.muli arg13 c352_i32
  let v21 : BitVec 32 := v20
  let v22 : Index := Scalar.indexCast v21
  let c0_18 : Index := 0#32
  ![v22.toNat, 0]
def k2_off4 (k2_t2 : Fin k2_t2_loop.trips) : Fin 2 → Nat :=
  let c0_i32_5 : BitVec 32 := 0#32
  let c1_i32_6 : BitVec 32 := 1#32
  let arg13 : BitVec 32 := Scf.iv c0_i32_5 c1_i32_6 k2_t2
  let c352_i32 : BitVec 32 := 352#32
  let v20 : BitVec 32 := Scalar.muli arg13 c352_i32
  let v21 : BitVec 32 := v20
  let v29 : Index := Scalar.indexCast v21
  let c0_22 : Index := 0#32
  ![v29.toNat, 0]
def k2_off5 (k2_t2 : Fin k2_t2_loop.trips) : Fin 2 → Nat :=
  let c0_i32_5 : BitVec 32 := 0#32
  let c1_i32_6 : BitVec 32 := 1#32
  let arg13 : BitVec 32 := Scf.iv c0_i32_5 c1_i32_6 k2_t2
  let c352_i32 : BitVec 32 := 352#32
  let v20 : BitVec 32 := Scalar.muli arg13 c352_i32
  let v21 : BitVec 32 := v20
  let v39 : Index := Scalar.indexCast v21
  let c0_24 : Index := 0#32
  ![v39.toNat, 0]
@[reducible] def k2_t3_loop : Scf.Loop 32 :=
  let c0_i32_14 : BitVec 32 := 0#32
  let c6_i32_15 : BitVec 32 := 6#32
  let v19 : BitVec 32 := Scalar.addi c0_i32_14 c6_i32_15
  let c1_i32_16 : BitVec 32 := 1#32
  ⟨c0_i32_14, v19, c1_i32_16⟩
def k2_mult2 (k2_t3 : Fin k2_t3_loop.trips) : BitVec 32 :=
  let c0_i32_14 : BitVec 32 := 0#32
  let c1_i32_16 : BitVec 32 := 1#32
  let arg13 : BitVec 32 := Scf.iv c0_i32_14 c1_i32_16 k2_t3
  let c352_i32 : BitVec 32 := 352#32
  let v20 : BitVec 32 := Scalar.muli arg13 c352_i32
  v20
def k2_off6 (k2_t3 : Fin k2_t3_loop.trips) : Fin 2 → Nat :=
  let c0_i32_14 : BitVec 32 := 0#32
  let c1_i32_16 : BitVec 32 := 1#32
  let arg13 : BitVec 32 := Scf.iv c0_i32_14 c1_i32_16 k2_t3
  let c352_i32 : BitVec 32 := 352#32
  let v20 : BitVec 32 := Scalar.muli arg13 c352_i32
  let v21 : BitVec 32 := v20
  let v22 : Index := Scalar.indexCast v21
  let c0_18 : Index := 0#32
  ![v22.toNat, 0]
def k2_off7 (k2_t3 : Fin k2_t3_loop.trips) : Fin 3 → Nat :=
  let c0_21 : Index := 0#32
  let c0_i32_14 : BitVec 32 := 0#32
  let c1_i32_16 : BitVec 32 := 1#32
  let arg13 : BitVec 32 := Scf.iv c0_i32_14 c1_i32_16 k2_t3
  let c352_i32 : BitVec 32 := 352#32
  let v20 : BitVec 32 := Scalar.muli arg13 c352_i32
  let v21 : BitVec 32 := v20
  let v32 : Index := Scalar.indexCast v21
  let c0_22 : Index := 0#32
  ![0, v32.toNat, 0]
def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc2_transform_6 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S256x7168 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x7168 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S2112x7168 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S2112x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S2112x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1x2112x256 .i8 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x1x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S256x7168 .i8 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S1x1x256 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]
-- ==== ReferenceIdeal.lean ====
abbrev S16x512x7168 : Shape := ⟨3, ![16, 512, 7168]⟩
abbrev S7168x2112 : Shape := ⟨2, ![7168, 2112]⟩
abbrev S7168 : Shape := ⟨1, ![7168]⟩
abbrev S2112 : Shape := ⟨1, ![2112]⟩
abbrev S_ : Shape := ⟨0, ![]⟩
abbrev S8192x7168 : Shape := ⟨2, ![8192, 7168]⟩
abbrev S1x7168 : Shape := ⟨2, ![1, 7168]⟩
abbrev S1x2112 : Shape := ⟨2, ![1, 2112]⟩
abbrev S8192x2112 : Shape := ⟨2, ![8192, 2112]⟩
abbrev S8192x1 : Shape := ⟨2, ![8192, 1]⟩
abbrev S7168x1 : Shape := ⟨2, ![7168, 1]⟩
abbrev S8192 : Shape := ⟨1, ![8192]⟩
abbrev S16x512x2112 : Shape := ⟨3, ![16, 512, 2112]⟩
abbrev S16x512 : Shape := ⟨2, ![16, 512]⟩

abbrev nBuf : Space → Nat
  | .hbm => 35
  | .vmem => 10
  | .smem => 0
  | _ => 0

abbrev bufTy : (tb : Table) → Fin (tcTables nBuf tb) → BufTy
  | .hbm, ⟨0, _⟩ => ⟨S16x512x7168, .bf16⟩
  | .hbm, ⟨1, _⟩ => ⟨S7168x2112, .bf16⟩
  | .hbm, ⟨2, _⟩ => ⟨S7168, .f32⟩
  | .hbm, ⟨3, _⟩ => ⟨S2112, .f32⟩
  | .hbm, ⟨4, _⟩ => ⟨S16x512x7168, .f32⟩
  | .hbm, ⟨5, _⟩ => ⟨S16x512x7168, .f32⟩
  | .hbm, ⟨6, _⟩ => ⟨S_, .f32⟩
  | .hbm, ⟨7, _⟩ => ⟨S7168, .f32⟩
  | .hbm, ⟨8, _⟩ => ⟨S_, .f32⟩
  | .hbm, ⟨9, _⟩ => ⟨S7168, .f32⟩
  | .hbm, ⟨10, _⟩ => ⟨S7168, .f32⟩
  | .hbm, ⟨11, _⟩ => ⟨S_, .f32⟩
  | .hbm, ⟨12, _⟩ => ⟨S7168, .f32⟩
  | .hbm, ⟨13, _⟩ => ⟨S7168, .f32⟩
  | .hbm, ⟨14, _⟩ => ⟨S_, .f32⟩
  | .hbm, ⟨15, _⟩ => ⟨S7168, .f32⟩
  | .hbm, ⟨16, _⟩ => ⟨S7168, .f32⟩
  | .hbm, ⟨17, _⟩ => ⟨S_, .f32⟩
  | .hbm, ⟨18, _⟩ => ⟨S7168, .f32⟩
  | .hbm, ⟨19, _⟩ => ⟨S7168, .f32⟩
  | .hbm, ⟨20, _⟩ => ⟨S7168, .f32⟩
  | .hbm, ⟨21, _⟩ => ⟨S8192x7168, .bf16⟩
  | .hbm, ⟨22, _⟩ => ⟨S1x7168, .f32⟩
  | .hbm, ⟨23, _⟩ => ⟨S1x2112, .f32⟩
  | .hbm, ⟨24, _⟩ => ⟨S8192x2112, .i8⟩
  | .hbm, ⟨25, _⟩ => ⟨S8192x1, .f32⟩
  | .hbm, ⟨26, _⟩ => ⟨S7168x2112, .i8⟩
  | .hbm, ⟨27, _⟩ => ⟨S1x2112, .f32⟩
  | .hbm, ⟨28, _⟩ => ⟨S8192x7168, .i8⟩
  | .hbm, ⟨29, _⟩ => ⟨S8192x1, .f32⟩
  | .hbm, ⟨30, _⟩ => ⟨S16x512x2112, .i8⟩
  | .hbm, ⟨31, _⟩ => ⟨S16x512, .f32⟩
  | .hbm, ⟨32, _⟩ => ⟨S2112, .f32⟩
  | .hbm, ⟨33, _⟩ => ⟨S16x512x7168, .i8⟩
  | .hbm, ⟨34, _⟩ => ⟨S16x512, .f32⟩
  | .local _ .vmem, ⟨0, _⟩ => ⟨S8192x7168, .bf16⟩
  | .local _ .vmem, ⟨1, _⟩ => ⟨S1x7168, .f32⟩
  | .local _ .vmem, ⟨2, _⟩ => ⟨S7168x2112, .bf16⟩
  | .local _ .vmem, ⟨3, _⟩ => ⟨S1x2112, .f32⟩
  | .local _ .vmem, ⟨4, _⟩ => ⟨S8192x2112, .i8⟩
  | .local _ .vmem, ⟨5, _⟩ => ⟨S8192x1, .f32⟩
  | .local _ .vmem, ⟨6, _⟩ => ⟨S7168x2112, .i8⟩
  | .local _ .vmem, ⟨7, _⟩ => ⟨S1x2112, .f32⟩
  | .local _ .vmem, ⟨8, _⟩ => ⟨S8192x7168, .i8⟩
  | .local _ .vmem, ⟨9, _⟩ => ⟨S8192x1, .f32⟩
  | _, _ => ⟨S16x512x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15_0 : Ref sig .tc := ⟨.hbm, 24, rfl⟩
abbrev main_v15_1 : Ref sig .tc := ⟨.hbm, 25, rfl⟩
abbrev main_v15_2 : Ref sig .tc := ⟨.hbm, 26, rfl⟩
abbrev main_v15_3 : Ref sig .tc := ⟨.hbm, 27, rfl⟩
abbrev main_v15_4 : Ref sig .tc := ⟨.hbm, 28, rfl⟩
abbrev main_v15_5 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S8192x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x7168 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S7168x2112 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2112 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x2112 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8192x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S7168x2112 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x2112 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8192x7168 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8192x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.RunBits.Smooth.lean ====
/- The first call of @main, the smoothing factors: what its body leaves at every grid point, as explicit contents.
   The call walks the 16 row blocks of the activations, keeps the running column maximum of their absolute values in a
   scratch row, and at the last point stores the factors. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp

@[expose] public section

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Core `c`'s TensorCore buffers as the region finds them. -/
abbrev Bufs (F : FTy → Type) : Type := (c : Dev nD) → (b : Ref sig .tc) → Buf (Elt F) ((c : Thread nD τ).loc b)

variable (V : Bufs F)

theorem hz2 : (![0, 0] : Fin 2 → Nat) = fun _ => 0 := funext fun a => by fin_cases a <;> rfl
theorem hz3 : (![0, 0, 0] : Fin 3 → Nat) = fun _ => 0 := funext fun a => by fin_cases a <;> rfl

/-- A store through the rectangle of the whole buffer, last of several, leaves its payload, whatever the buffer held. -/
theorem read_writes_full {Val : EltTy → Type} [∀ e, Nonempty (Val e)] {sp : Space} {S : Shape} {e : EltTy}
    (v : View sig .tc sp S e) (f : v.ty.Contents Val) {off : Fin S.rank → Nat} (hoff : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst hoff
  rw [View.read_writes_eq_canon _ _ _ (fun y => ⟨_, List.mem_cons_self, by
    rw [Rect.mem_set_unit]; intro a; exact ⟨Nat.zero_le _, by simpa using (y a).isLt⟩⟩)]
  exact View.canon_cons_unit_zero rfl inb w L

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's branch conditions -/

/-- The first conditional's condition, from the grid coordinates. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val = 0 :=
  (by decide +kernel : ∀ t : Fin grid0.N, cond0_0 (grid0.coords t) ↔ t.val = 0)
/-- The second conditional's condition. -/
abbrev cond0_1 (i : grid0.Coords) : Prop := (Scalar.cmpi .ne (Scalar.extui (Scalar.cmpi .sgt (BitVec.ofNat 32 (i 0).val) 0#32)) 0#32) = 1#1
/-- It holds from the second point on. -/
theorem hcond0_1 : ∀ t : Fin cfg0.N, cond0_1 (grid0.coords t) ↔ t.val ≠ 0 :=
  (by decide +kernel : ∀ t : Fin grid0.N, cond0_1 (grid0.coords t) ↔ t.val ≠ 0)
/-- The third conditional's condition. -/
abbrev cond0_2 (i : grid0.Coords) : Prop := k0_cond3 i = 1#1
/-- It holds at the last point only. -/
theorem hcond0_2 : ∀ t : Fin cfg0.N, cond0_2 (grid0.coords t) ↔ t.val = 15 :=
  (by decide +kernel : ∀ t : Fin grid0.N, cond0_2 (grid0.coords t) ↔ t.val = 15)

/-- The inputs are never idle. -/
theorem liveAt0_0 : ∀ t : Fin cfg0.N, cfg0.idle 0 (grid0.coords t) = false := fun _ => rfl
theorem liveAt0_1 : ∀ t : Fin cfg0.N, cfg0.idle 1 (grid0.coords t) = false := fun _ => rfl
/-- Before the last point the output is idle and not written back; at the last point it is live. -/
theorem idleAt0_2 : ∀ t : Fin cfg0.N, t.val ≠ 15 → cfg0.idle 2 (grid0.coords t) = true :=
  (by decide +kernel : ∀ t : Fin grid0.N, t.val ≠ 15 → cfg0.idle 2 (grid0.coords t) = true)
theorem noFlush0_2 : ∀ t : Fin cfg0.N, t.val ≠ 15 → (cfg0.win 2).flush t = false :=
  (by decide +kernel : ∀ t : Fin grid0.N, t.val ≠ 15 → win0_2.flush t = false)
theorem liveAt0_2 : ∀ t : Fin cfg0.N, t.val = 15 → cfg0.idle 2 (grid0.coords t) = false :=
  (by decide +kernel : ∀ t : Fin grid0.N, t.val = 15 → cfg0.idle 2 (grid0.coords t) = false)

/-! ## The body on any staging memrefs -/

/-- Each window's current staging memref at point `t`, and its wholeness. -/
abbrev ms0_0 (t : Fin cfg0.N) : Memref sig .tc .vmem S512x7168 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x7168 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x7168 .f32 := win0_2.stage (cfg0.slots t 2)
abbrev hs0_2 (t : Fin cfg0.N) : (ms0_2 t).IsWhole := hstage0_2 ((cfg0.slots t 2).cast nbuf0_2)
/-- The scratch row the call carries between points. -/
abbrev scM0_0 : Memref sig .tc .vmem S1x7168 .bf16 := Memref.whole cc0_scratch0

/-- The other scoped buffers of the core (the other calls' staging buffers and scratch), at any contents. -/
abbrev Rest0 (c : Dev nD) : sProp 𝕄 :=
  Pipeline.scopedRestBut (Ix := Unit) (Name := ℕ) (U := UR sig nD τ) (Lvl := ℕ) (Val := Elt F) spec0 c [cc0_scratch0]

/-- The launch's invariant of the region: the scratch row at some contents, the rest, the generator register. -/
theorem PhiA0_eq (c : Dev nD) :
    (Pipeline.ΦA spec0 c : sProp 𝕄)
      = iprop(iprop((∃ d, owns (c : Thread nD τ) scM0_0 fullShare d) ∗ Rest0 c) ∗ (∃ r, prngReg c r)) := by
  unfold Pipeline.ΦA; rw [scopedRest0_split]; simp only [scM0_0, owns_whole]; try rfl

set_option maxHeartbeats 1000000 in
/-- The first point: the scratch row ends holding the block's column maximum; the output is untouched. -/
theorem run0_A (c : Dev nD) (i : grid0.Coords)
  (arg1 : Memref sig .tc .vmem S512x7168 .bf16) (harg1 : arg1.IsWhole) (arg2 : Memref sig .tc .vmem S1x7168 .f32) (harg2 : arg2.IsWhole)
  (arg3 : Memref sig .tc .vmem S1x7168 .f32) (harg3 : arg3.IsWhole) (arg4 : Memref sig .tc .vmem S1x7168 .bf16) (harg4 : arg4.IsWhole)
  (x0 : Vec F S512x7168 .bf16) (x1 xi2 : Vec F S1x7168 .f32) (E : Set ℕ) (K : PUnit.{1} → sProp 𝕄)
  (hc0 : cond0_0 i) (hc1 : ¬cond0_1 i) (hc2 : ¬cond0_2 i) :
    iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ owns (c : Thread nD τ) arg4 fullShare (k0_pay2 x0)) -∗ K ⟨⟩))
          ⊢ wp frame (wpE (defs₀ (F := F)) Variants.none c none) E (cc0_smooth i arg1 harg1 arg2 harg2 arg3 harg3 arg4 harg4) K := by
    simp only [cc0_smooth_eq_skeleton]; unfold cc0_smooth_skel
    unfold owns
    iintro ⟨⟨%f0, %hf0, H0⟩, ⟨%f1, %hf1, H1⟩, ⟨%f2, %hf2, H2⟩, ⟨%ds0, %fs0, %hfs0, HS0⟩, Hk⟩
    obtain rfl := harg1.eq_unread hf0; obtain rfl := harg2.eq_unread hf1; obtain rfl := harg3.eq_unread hf2
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; isplitr
    swap; · iexact HS0
    ipureintro
    rw [read_writes_full _ _ hz2]
    simp only [View.readAt_eq_ld, harg1.read_unread, View.ld_unit_zero (S := S512x7168) hz2]

set_option maxHeartbeats 1000000 in
/-- A point that is neither the first nor the last: the block's column maximum joins the scratch row. -/
theorem run0_B (c : Dev nD) (i : grid0.Coords)
  (arg1 : Memref sig .tc .vmem S512x7168 .bf16) (harg1 : arg1.IsWhole) (arg2 : Memref sig .tc .vmem S1x7168 .f32) (harg2 : arg2.IsWhole)
  (arg3 : Memref sig .tc .vmem S1x7168 .f32) (harg3 : arg3.IsWhole) (arg4 : Memref sig .tc .vmem S1x7168 .bf16) (harg4 : arg4.IsWhole)
  (x0 : Vec F S512x7168 .bf16) (x1 xi2 : Vec F S1x7168 .f32) (xs0 : Vec F S1x7168 .bf16) (E : Set ℕ) (K : PUnit.{1} → sProp 𝕄)
  (hc0 : ¬cond0_0 i) (hc1 : cond0_1 i) (hc2 : ¬cond0_2 i) :
    iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ owns (c : Thread nD τ) arg4 fullShare (k0_pay3 x0 xs0)) -∗ K ⟨⟩))
          ⊢ wp frame (wpE (defs₀ (F := F)) Variants.none c none) E (cc0_smooth i arg1 harg1 arg2 harg2 arg3 harg3 arg4 harg4) K := by
    simp only [cc0_smooth_eq_skeleton]; unfold cc0_smooth_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; isplitr
    swap; · iexact HS0
    ipureintro
    rw [read_writes_full _ _ hz2]
    simp only [View.readAt_eq_ld, harg1.read_unread, harg4.read_unread, View.ld_unit_zero (S := S512x7168) hz2, View.ld_unit_zero (S := S1x7168) hz2]

set_option maxHeartbeats 1000000 in
/-- The last point: the block's column maximum joins the scratch row, and the factors made from it are stored. -/
theorem run0_C (c : Dev nD) (i : grid0.Coords)
  (arg1 : Memref sig .tc .vmem S512x7168 .bf16) (harg1 : arg1.IsWhole) (arg2 : Memref sig .tc .vmem S1x7168 .f32) (harg2 : arg2.IsWhole)
  (arg3 : Memref sig .tc .vmem S1x7168 .f32) (harg3 : arg3.IsWhole) (arg4 : Memref sig .tc .vmem S1x7168 .bf16) (harg4 : arg4.IsWhole)
  (x0 : Vec F S512x7168 .bf16) (x1 : Vec F S1x7168 .f32) (xs0 : Vec F S1x7168 .bf16) (E : Set ℕ) (K : PUnit.{1} → sProp 𝕄)
  (hc0 : ¬cond0_0 i) (hc1 : cond0_1 i) (hc2 : cond0_2 i) :
    iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ owns (c : Thread nD τ) arg3 fullShare (k0_pay4 (k0_pay3 x0 xs0) x1) ∗ owns (c : Thread nD τ) arg4 fullShare (k0_pay3 x0 xs0)) -∗ K ⟨⟩))
          ⊢ wp frame (wpE (defs₀ (F := F)) Variants.none c none) E (cc0_smooth i arg1 harg1 arg2 harg2 arg3 harg3 arg4 harg4) K := by
    simp only [cc0_smooth_eq_skeleton]; unfold cc0_smooth_skel
    unfold owns
    iintro ⟨⟨%f0, %hf0, H0⟩, ⟨%f1, %hf1, H1⟩, ⟨%d2, %f2, %hf2, H2⟩, ⟨%fs0, %hfs0, HS0⟩, Hk⟩
    obtain rfl := harg1.eq_unread hf0; obtain rfl := harg2.eq_unread hf1; obtain rfl := harg4.eq_unread hfs0
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr
      swap; · iexact H2
      ipureintro
      rw [read_writes_full _ _ hz2]
      sl_unfold_words
      simp only [View.readAt_eq_ld, View.readCov_unit_zero (S := S1x7168) _ hz2, harg1.read_unread, harg2.read_unread, harg4.read_unread, View.ld_unit_zero (S := S512x7168) hz2, View.ld_unit_zero (S := S1x7168) hz2]
    iexists _; isplitr
    swap; · iexact HS0
    ipureintro
    sl_unfold_words
    rw [read_writes_full _ _ hz2]
    simp only [View.readAt_eq_ld, harg1.read_unread, harg4.read_unread, View.ld_unit_zero (S := S512x7168) hz2, View.ld_unit_zero (S := S1x7168) hz2]

/-! ## What the scratch row holds after each point -/

/-- THE RUNNING MAXIMUM: what the scratch row holds after the body at point `n`. -/
def acc0 (c : Dev nD) : (n : ℕ) → n < cfg0.N → Vec F S1x7168 .bf16
  | 0, hn => k0_pay2 (iblk0 V c 0 ⟨0, hn⟩)
  | n + 1, hn => k0_pay3 (iblk0 V c 0 ⟨n + 1, hn⟩) (acc0 c n (Nat.lt_of_succ_lt hn))

theorem acc0_zero (c : Dev nD) (t : Fin cfg0.N) (h : t.val = 0) : acc0 V c t.val t.isLt = k0_pay2 (iblk0 V c 0 t) := by
  obtain ⟨n, hn⟩ := t; dsimp only at h; subst h; rfl

theorem acc0_pos (c : Dev nD) (t : Fin cfg0.N) (h : t.val ≠ 0) :
    acc0 V c t.val t.isLt = k0_pay3 (iblk0 V c 0 t) (acc0 V c (t.val - 1) (Nat.lt_of_le_of_lt (Nat.sub_le _ _) t.isLt)) := by
  obtain ⟨n, hn⟩ := t
  cases n with
  | zero => exact absurd rfl h
  | succ n => rfl

/-- The region invariant before position `n`: at the first point the launch's, afterwards the scratch row at the running maximum. -/
def PhiS (c : Dev nD) : (n : ℕ) → n ≤ cfg0.N → sProp 𝕄
  | 0, _ => Pipeline.ΦA spec0 c
  | n + 1, hn => iprop(iprop(owns (c : Thread nD τ) scM0_0 fullShare (acc0 V c n hn) ∗ Rest0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare (acc0 V c n hn) ∗ Rest0 c) ∗ (∃ r, prngReg c r)) := rfl

theorem PhiS_pos (c : Dev nD) (n : ℕ) (h : n ≤ cfg0.N) (hz : n ≠ 0) :
    PhiS V c n h = iprop(iprop(owns (c : Thread nD τ) scM0_0 fullShare (acc0 V c (n - 1) (by omega)) ∗ Rest0 c) ∗ (∃ r, prngReg c r)) := by
  cases n with
  | zero => exact absurd rfl hz
  | succ n => rfl

/-! ## The pipeline's proof data -/

/-- The proof data of the region: the arrays as the region finds them; after the body at point `t` each input's buffer at
    its block and the output's at the factors made from the running maximum; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay4 (acc0 V c t.val t.isLt) (iblk0 V c 1 t)
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; exact Pipeline.Dat.Φ_castSucc (PhiS V c) t

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay4 (acc0 V c t.val t.isLt) (iblk0 V c 1 t) := by dsimp only [dat0]

/-- Each input's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the first, the last, or one between. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
      unfold Dat.leavesExact; rw [liveAt0_0 t], after0_0]
  rw [show (dat0 V c).leavesExact 1 t = owns (c : Thread nD τ) (ms0_1 t) fullShare ((dat0 V c).after 1 t) from by
      unfold Dat.leavesExact; rw [liveAt0_1 t], after0_1]
  by_cases h0 : t.val = 0
  · have h2 : t.val ≠ 15 := by omega
    rw [Dat.leavesExact_idle (dat0 V c) 2 t (idleAt0_2 t h2) (noFlush0_2 t h2)]
    rw [PhiS_castSucc V c t, PhiS_zero V c _ _ h0, PhiA0_eq, acc0_zero V c t h0]
    iintro ⟨⟨⟨HS0, HR⟩, Hg⟩, Ho, ⟨%d0, H0⟩, ⟨%d1, H1⟩, ⟨%d2, H2⟩⟩
    iapply (run0_A c (grid0.coords t) _ _ _ _ _ _ _ _ (iblk0 V c 0 t) (iblk0 V c 1 t) _ Set.univ _ ((hcond0_0 t).mpr h0) (fun h => (hcond0_1 t).mp h h0) (fun h => h2 ((hcond0_2 t).mp h)))
    isplitl [H0]; · iexact H0
    isplitl [H1]; · iexact H1
    isplitl [H2]; · iexact H2
    isplitl [HS0]; · iexact HS0
    iintro ⟨H0, H1, H2, HS0⟩
    isplitl [HS0 HR Hg]
    · isplitl [HS0 HR]
      · isplitl [HS0]; · iexact HS0
        iexact HR
      iexact Hg
    isplitl [Ho]; · iexact Ho
    isplitl [H0]; · iexact H0
    isplitl [H1]; · iexact H1
    iexists _; iexact H2
  · rw [PhiS_castSucc V c t, PhiS_pos V c _ _ h0]
    by_cases h2 : t.val = 15
    · rw [show (dat0 V c).leavesExact 2 t = owns (c : Thread nD τ) (ms0_2 t) fullShare ((dat0 V c).after 2 t) from by
        unfold Dat.leavesExact; rw [liveAt0_2 t h2], after0_2]
      rw [acc0_pos V c t h0]
      iintro ⟨⟨⟨HS0, HR⟩, Hg⟩, Ho, ⟨%d0, H0⟩, ⟨%d1, H1⟩, ⟨%d2, H2⟩⟩
      iapply (run0_C c (grid0.coords t) _ _ _ _ _ _ _ _ (iblk0 V c 0 t) (iblk0 V c 1 t) _ Set.univ _ (fun h => h0 ((hcond0_0 t).mp h)) ((hcond0_1 t).mpr h0) ((hcond0_2 t).mpr h2))
      isplitl [H0]; · iexact H0
      isplitl [H1]; · iexact H1
      isplitl [H2]; · iexists _; iexact H2
      isplitl [HS0]; · iexact HS0
      iintro ⟨H0, H1, H2, HS0⟩
      isplitl [HS0 HR Hg]
      · isplitl [HS0 HR]
        · isplitl [HS0]; · iexact HS0
          iexact HR
        iexact Hg
      isplitl [Ho]; · iexact Ho
      isplitl [H0]; · iexact H0
      isplitl [H1]; · iexact H1
      iexact H2
    · rw [Dat.leavesExact_idle (dat0 V c) 2 t (idleAt0_2 t h2) (noFlush0_2 t h2)]
      rw [acc0_pos V c t h0]
      iintro ⟨⟨⟨HS0, HR⟩, Hg⟩, Ho, ⟨%d0, H0⟩, ⟨%d1, H1⟩, ⟨%d2, H2⟩⟩
      iapply (run0_B c (grid0.coords t) _ _ _ _ _ _ _ _ (iblk0 V c 0 t) (iblk0 V c 1 t) _ _ Set.univ _ (fun h => h0 ((hcond0_0 t).mp h)) ((hcond0_1 t).mpr h0) (fun h => h2 ((hcond0_2 t).mp h)))
      isplitl [H0]; · iexact H0
      isplitl [H1]; · iexact H1
      isplitl [H2]; · iexact H2
      isplitl [HS0]; · iexact HS0
      iintro ⟨H0, H1, H2, HS0⟩
      isplitl [HS0 HR Hg]
      · isplitl [HS0 HR]
        · isplitl [HS0]; · iexact HS0
          iexact HR
        iexact Hg
      isplitl [Ho]; · iexact Ho
      isplitl [H0]; · iexact H0
      isplitl [H1]; · iexact H1
      iexists _; iexact H2

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the launch's back. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 16 := N_0; omega), PhiA0_eq]
  iintro ⟨⟨HS0, HR⟩, Hg⟩
  isplitl [HS0 HR]
  · isplitl [HS0]
    · iexists _; iexact HS0
    iexact HR
  iexact Hg

end Cert.Kernel.Run

end
-- ==== Proof.RunBits.Weight.lean ====
/- The second call of @main, the weight: its body leaves, at every grid point, the codes, the same codes as bfloat16 and
   the scales of one block of 192 weight columns, as explicit contents of the blocks it reads. -/
module

public import proofs.«01_k».proof.Proof.RunBits.Smooth

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Bufs F)

/-! # REGION 1 of @main: custom_call 1, `cc1_weight` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S192x7168 := Rect.unit (s := S192x7168) ![0, 0] S192x7168.size inb_S192x7168_S192x7168_0_0
abbrev r1_1 : Rect S1x7168 := Rect.unit (s := S1x7168) ![0, 0] S1x7168.size inb_S1x7168_S1x7168_0_0
abbrev r1_2 : Rect S192x1 := Rect.unit (s := S192x1) ![0, 0] S192x1.size inb_S192x1_S192x1_0_0

/-! ## What the body leaves in each output window's buffer -/

/-- Window 2's staging buffer after the body, from the input windows' blocks: its 1 store as pieces, LAST
    FIRST (Lib/Pipeline/FrameBody.lean `View.canon`; the payloads are the skeleton's). -/
def out1_2 (x0 : Vec F S192x7168 .bf16) (x1 : Vec F S1x7168 .f32) : Vec F S192x7168 .i8 :=
  View.canon [⟨r1_0, k1_pay4 (View.ld x0 r1_0) (View.ld x1 r1_1)⟩]

/-- Its stores tile the buffer (checked by evaluation), so they cover it. -/
theorem cover1_2 (p0 : Vec F S192x7168 .i8) (y : S192x7168.Idx) :
    ∃ pc ∈ ([⟨r1_0, p0⟩] : List (View.Piece (Elt F) S192x7168 .i8)), y ∈ pc.1.set :=
  View.cover_of_tiled [⟨r1_0, p0⟩] S192x7168.size (by rfl) y

/-- Window 3's staging buffer after the body, from the input windows' blocks: its 1 store as pieces, LAST
    FIRST (Lib/Pipeline/FrameBody.lean `View.canon`; the payloads are the skeleton's). -/
def out1_3 (x0 : Vec F S192x7168 .bf16) (x1 : Vec F S1x7168 .f32) : Vec F S192x7168 .bf16 :=
  View.canon [⟨r1_0, k1_pay5 (View.ld x0 r1_0) (View.ld x1 r1_1)⟩]

/-- Its stores tile the buffer (checked by evaluation), so they cover it. -/
theorem cover1_3 (p0 : Vec F S192x7168 .bf16) (y : S192x7168.Idx) :
    ∃ pc ∈ ([⟨r1_0, p0⟩] : List (View.Piece (Elt F) S192x7168 .bf16)), y ∈ pc.1.set :=
  View.cover_of_tiled [⟨r1_0, p0⟩] S192x7168.size (by rfl) y

/-- Window 4's staging buffer after the body, from the input windows' blocks: its 1 store as pieces, LAST
    FIRST (Lib/Pipeline/FrameBody.lean `View.canon`; the payloads are the skeleton's). -/
def out1_4 (x0 : Vec F S192x7168 .bf16) (x1 : Vec F S1x7168 .f32) : Vec F S192x1 .f32 :=
  View.canon [⟨r1_2, k1_pay2 (View.ld x0 r1_0) (View.ld x1 r1_1)⟩]

/-- Its stores tile the buffer (checked by evaluation), so they cover it. -/
theorem cover1_4 (p0 : Vec F S192x1 .f32) (y : S192x1.Idx) :
    ∃ pc ∈ ([⟨r1_2, p0⟩] : List (View.Piece (Elt F) S192x1 .f32)), y ∈ pc.1.set :=
  View.cover_of_tiled [⟨r1_2, p0⟩] S192x1.size (by rfl) y

/-! ## The body's triple -/

set_option maxHeartbeats 1000000 in
/-- The kernel body on whole staging memrefs, the inputs' at read contents `xW` and the outputs' at anything, runs to
    the continuation holding the inputs' as they were and each output's at `out1_W` of the inputs': the printed functions
    are their skeletons (`Gen.*_eq_skeleton`), which `sl_exec` runs (Lib/Exec.lean), through every part call. -/
theorem sound_kernel1 (c : Dev nD) (E : Set ℕ) (i : grid1.Coords) (arg1 : Memref sig .tc .vmem S192x7168 .bf16) (harg1 : arg1.IsWhole) (arg2 : Memref sig .tc .vmem S1x7168 .f32) (harg2 : arg2.IsWhole) (arg3 : Memref sig .tc .vmem S192x7168 .i8) (harg3 : arg3.IsWhole) (arg4 : Memref sig .tc .vmem S192x7168 .bf16) (harg4 : arg4.IsWhole) (arg5 : Memref sig .tc .vmem S192x1 .f32) (harg5 : arg5.IsWhole)
    (x0 : Vec F S192x7168 .bf16) (x1 : Vec F S1x7168 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare (out1_2 x0 x1) ∗ owns (c : Thread nD τ) arg4 fullShare (out1_3 x0 x1) ∗ owns (c : Thread nD τ) arg5 fullShare (out1_4 x0 x1)) -∗ K ⟨⟩))
      ⊢ wp frame (wpE (defs₀ (F := F)) Variants.none c none) E (cc1_weight i arg1 harg1 arg2 harg2 arg3 harg3 arg4 harg4 arg5 harg5) K := by
  simp only [cc1_weight_eq_skeleton]; unfold cc1_weight_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover1_2 _)
  isplitl [H3]
  · iexists _; isplitr
    swap; · iexact H3
    ipureintro
    exact View.read_writes_eq_canon _ _ _ (cover1_3 _)
  iexists _; isplitr
  swap; · iexact H4
  ipureintro
  exact View.read_writes_eq_canon _ _ _ (cover1_4 _)

/-! ## The pipeline's proof data -/

/-- The proof data of pipeline 1 on core `c`: the arrays as the region finds them (`V`); after the body at
    point `t` each input's buffer at its block and each output's at `out1_W` of the input blocks; the invariant the
    class's (Lib/Pipeline/Frame.lean `ΦA`: the scoped rest and the generator register, untouched); nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
    | ⟨3, _⟩ => out1_3 (iblk1 V c 0 t) (iblk1 V c 1 t)
    | ⟨4, _⟩ => out1_4 (iblk1 V c 0 t) (iblk1 V c 1 t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`, never `rfl`: Lib/Pipeline.lean `Dat`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]
theorem after1_3 (c : Dev nD) (t : Fin cfg1.N) : (dat1 V c).after 3 t = out1_3 (iblk1 V c 0 t) (iblk1 V c 1 t) := by dsimp only [dat1]
theorem after1_4 (c : Dev nD) (t : Fin cfg1.N) : (dat1 V c).after 4 t = out1_4 (iblk1 V c 0 t) (iblk1 V c 1 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- The codes' block after the body. -/
theorem out1_2_eq (x0 : Vec F S192x7168 .bf16) (x1 : Vec F S1x7168 .f32) : out1_2 x0 x1 = k1_pay4 x0 x1 := by
  unfold out1_2
  rw [View.canon_cons_unit_zero hz2, View.ld_unit_zero (S := S192x7168) hz2, View.ld_unit_zero (S := S1x7168) hz2]
/-- The bfloat16 codes' block after the body. -/
theorem out1_3_eq (x0 : Vec F S192x7168 .bf16) (x1 : Vec F S1x7168 .f32) : out1_3 x0 x1 = k1_pay5 x0 x1 := by
  unfold out1_3
  rw [View.canon_cons_unit_zero hz2, View.ld_unit_zero (S := S192x7168) hz2, View.ld_unit_zero (S := S1x7168) hz2]
/-- The scales' block after the body. -/
theorem out1_4_eq (x0 : Vec F S192x7168 .bf16) (x1 : Vec F S1x7168 .f32) : out1_4 x0 x1 = k1_pay2 x0 x1 := by
  unfold out1_4
  rw [View.canon_cons_unit_zero hz2, View.ld_unit_zero (S := S192x7168) hz2, View.ld_unit_zero (S := S1x7168) hz2]

end Cert.Kernel.Run

end
-- ==== Proof.RunBits.Tiles.lean ====
/- Buffers filled block after block along one axis: what such a buffer holds once the blocks cover it. -/
module

public import proofs.«01_k».proof.Proof.RunBits.Weight
public import Idealize.ShloMosaic.Lib.Pipeline.ValueKit.Tiles

@[expose] public section

noncomputable section

namespace Cert.Kernel.Run

open Idealize.ShloMosaic Idealize.ShloMosaic.TcCoe
open Idealize.SL Idealize.SL.Sem

/-- The values of the indices before `k`, the last first. -/
def before {α : Type} {N : Nat} (f : Fin N → α) : Nat → List α
  | 0 => []
  | k + 1 => if h : k < N then f ⟨k, h⟩ :: before f k else before f k

theorem before_succ {α : Type} {N : Nat} (f : Fin N → α) (k : Fin N) : before f (k.val + 1) = f k :: before f k.val := by
  rw [before, dif_pos k.isLt]

theorem mem_before {α : Type} {N : Nat} (f : Fin N → α) (p : α) : ∀ k, p ∈ before f k → ∃ i : Fin N, f i = p
  | 0, h => by simp [before] at h
  | k + 1, h => by
    rw [before] at h
    split at h
    · rcases List.mem_cons.mp h with rfl | h
      · exact ⟨_, rfl⟩
      · exact mem_before f p k h
    · exact mem_before f p k h

theorem before_mem {α : Type} {N : Nat} (f : Fin N → α) (i : Fin N) : ∀ k, i.val < k → f i ∈ before f k
  | 0, h => by omega
  | k + 1, h => by
    rw [before]
    split
    · by_cases hk : i.val = k
      · exact List.mem_cons.mpr (.inl (congrArg f (Fin.ext hk)))
      · exact List.mem_cons_of_mem _ (before_mem f i k (by omega))
    · have := i.isLt
      exact before_mem f i k (by omega)

/-- The rectangle of block `k` of `N` blocks of `n` along axis `a`: whole on every other axis. -/
structure Blocks (S : Shape) (N : Nat) (off : Fin N → Fin S.rank → Nat) (size : Fin S.rank → Nat) (a : Fin S.rank) (n : Nat) : Prop where
  offa : ∀ k, off k a = n * k.val
  offb : ∀ k b, b ≠ a → off k b = 0
  sizea : size a = n
  sizeb : ∀ b, b ≠ a → size b = S.size b
  whole : S.size a = n * N

variable {Val : EltTy → Type} [∀ e, Nonempty (Val e)] {S : Shape} {e : EltTy} {N : Nat} {off : Fin N → Fin S.rank → Nat}
  {size : Fin S.rank → Nat} {a : Fin S.rank} {n : Nat}

/-- Different blocks do not meet. -/
theorem Blocks.disjoint (hB : Blocks S N off size a n) (inb : ∀ k b, off k b + size b ≤ S.size b) (k k' : Fin N) (hk : k ≠ k') :
    Disjoint (Rect.unit (off k) size (inb k)).set (Rect.unit (off k') size (inb k')).set := by
  rw [Finset.disjoint_left]
  intro y h h'
  have h1 := (Rect.mem_set_unit.mp h) a
  have h2 := (Rect.mem_set_unit.mp h') a
  rw [hB.offa, hB.sizea] at h1 h2
  have : k.val = k'.val := by
    rcases Nat.lt_trichotomy k.val k'.val with h | h | h
    · have : n * (k.val + 1) ≤ n * k'.val := Nat.mul_le_mul_left _ h
      rw [Nat.mul_add] at this; omega
    · exact h
    · have : n * (k'.val + 1) ≤ n * k.val := Nat.mul_le_mul_left _ h
      rw [Nat.mul_add] at this; omega
  exact hk (Fin.ext this)

/-- Every index lies in a block. -/
theorem Blocks.cover (hB : Blocks S N off size a n) (inb : ∀ k b, off k b + size b ≤ S.size b) (y : S.Idx) :
    ∃ k, y ∈ (Rect.unit (off k) size (inb k)).set := by
  have hy : (y a).val < n * N := lt_of_lt_of_eq (y a).isLt hB.whole
  have hn : 0 < n := Nat.pos_of_ne_zero fun h => by rw [h, Nat.zero_mul] at hy; omega
  refine ⟨⟨(y a).val / n, Nat.div_lt_of_lt_mul hy⟩, Rect.mem_set_unit.mpr fun b => ?_⟩
  by_cases hb : b = a
  · subst hb
    rw [hB.offa, hB.sizea]
    exact ⟨Nat.mul_div_le _ _, by have := Nat.lt_mul_div_succ (y b).val hn; rw [Nat.mul_add] at this; simpa using this⟩
  · rw [hB.offb _ b hb, hB.sizeb b hb]
    exact ⟨Nat.zero_le _, by simpa using (y b).isLt⟩

/-- The contents a buffer has once every block `k` holds `P k`. -/
def filled (inb : ∀ k b, off k b + size b ≤ S.size b) (P : (k : Fin N) → (Rect.unit (off k) size (inb k)).shape.Idx → Val e) : S.Idx → Val e :=
  View.canon (List.ofFn fun k => (⟨Rect.unit (off k) size (inb k), P k⟩ : View.Piece Val S e))

/-- Under block `k` they are `P k`. -/
theorem filled_emb (hB : Blocks S N off size a n) (inb : ∀ k b, off k b + size b ≤ S.size b)
    (P : (k : Fin N) → (Rect.unit (off k) size (inb k)).shape.Idx → Val e) (k : Fin N) (x) :
    filled inb P ((Rect.unit (off k) size (inb k)).emb x) = P k x :=
  View.canon_ofFn_emb_of_disjoint (fun k => Rect.unit (off k) size (inb k)) P (fun k k' h => hB.disjoint inb k k' h) k x

/-- A buffer all of whose blocks are written, one after the other, reads those contents, whatever it held. -/
theorem read_before (hB : Blocks S N off size a n) (inb : ∀ k b, off k b + size b ≤ S.size b)
    (P : (k : Fin N) → (Rect.unit (off k) size (inb k)).shape.Idx → Val e)
    {sig : RefSig} {κ : Kind} {sp : Space} (v : View sig κ sp S e) (f : v.ty.Contents Val) :
    v.read Val (v.writes Val f (before (fun k => (⟨Rect.unit (off k) size (inb k), P k⟩ : View.Piece Val S e)) N)) = filled inb P := by
  funext y
  refine View.read_writes_apply_of_pieces v f (filled inb P) _ ?_ y ?_
  · intro p hp x
    obtain ⟨k, rfl⟩ := mem_before _ _ _ hp
    exact (filled_emb hB inb P k x).symm
  · obtain ⟨k, hk⟩ := hB.cover inb y
    exact ⟨_, before_mem _ k _ k.isLt, hk⟩

/-- Block `k` of those contents is `P k`. -/
theorem ld_filled (hB : Blocks S N off size a n) (inb : ∀ k b, off k b + size b ≤ S.size b)
    (P : (k : Fin N) → (Rect.unit (off k) size (inb k)).shape.Idx → Val e) (k : Fin N) :
    View.ld (filled inb P) (Rect.unit (off k) size (inb k)) = P k :=
  funext fun x => filled_emb hB inb P k x

end Cert.Kernel.Run

end
-- ==== Proof.RunBits.Loops.lean ====
/- The third call of @main, the linear layer: what its three counted loops leave, as explicit contents. The first
   quantises the 256 rows of a block in eight trips of 32; the second forms the layer's outputs in six trips of 352
   output columns, keeping the largest absolute value per row; the third quantises them in six trips. -/
module

public import proofs.«01_k».proof.Proof.RunBits.Tiles
public import proofs.«01_k».proof.Proof.Gen.Kernel.Loops

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The blocks of the loops -/

theorem trips1 : k2_t1_loop.trips = 8 := by decide
theorem trips2 : k2_t2_loop.trips = 6 := by decide
theorem trips3 : k2_t3_loop.trips = 6 := by decide

/-- Trip `k` of the first loop takes rows `32 k` to `32 k + 31`. -/
abbrev R1 (k : Fin k2_t1_loop.trips) : Rect S256x7168 := Rect.unit (s := S256x7168) (k2_off1 k) S32x7168.size (k2_off1_inb k)
abbrev R2 (k : Fin k2_t1_loop.trips) : Rect S256x128 := Rect.unit (s := S256x128) (k2_off2 k) S32x128.size (k2_off2_inb k)
/-- Trip `k` of the second and third loops takes output columns `352 k` to `352 k + 351`. -/
abbrev R3 (k : Fin k2_t2_loop.trips) : Rect S2112x7168 := Rect.unit (s := S2112x7168) (k2_off3 k) S352x7168.size (k2_off3_inb k)
abbrev R4 (k : Fin k2_t2_loop.trips) : Rect S2112x1 := Rect.unit (s := S2112x1) (k2_off4 k) S352x1.size (k2_off4_inb k)
abbrev R5 (k : Fin k2_t2_loop.trips) : Rect S2112x256 := Rect.unit (s := S2112x256) (k2_off5 k) S352x256.size (k2_off5_inb k)
abbrev R6 (k : Fin k2_t3_loop.trips) : Rect S2112x256 := Rect.unit (s := S2112x256) (k2_off6 k) S352x256.size (k2_off6_inb k)
abbrev R7 (k : Fin k2_t3_loop.trips) : Rect S1x2112x256 := Rect.unit (s := S1x2112x256) (k2_off7 k) S1x352x256.size (k2_off7_inb k)

theorem blocks1 : Blocks S256x7168 k2_t1_loop.trips k2_off1 S32x7168.size 0 32 := ⟨by decide +kernel, by decide +kernel, by decide, by decide, by decide⟩
theorem blocks2 : Blocks S256x128 k2_t1_loop.trips k2_off2 S32x128.size 0 32 := ⟨by decide +kernel, by decide +kernel, by decide, by decide, by decide⟩
theorem blocks3 : Blocks S2112x7168 k2_t2_loop.trips k2_off3 S352x7168.size 0 352 := ⟨by decide +kernel, by decide +kernel, by decide, by decide, by decide⟩
theorem blocks4 : Blocks S2112x1 k2_t2_loop.trips k2_off4 S352x1.size 0 352 := ⟨by decide +kernel, by decide +kernel, by decide, by decide, by decide⟩
theorem blocks5 : Blocks S2112x256 k2_t2_loop.trips k2_off5 S352x256.size 0 352 := ⟨by decide +kernel, by decide +kernel, by decide, by decide, by decide⟩
theorem blocks6 : Blocks S2112x256 k2_t3_loop.trips k2_off6 S352x256.size 0 352 := ⟨by decide +kernel, by decide +kernel, by decide, by decide, by decide⟩
theorem blocks7 : Blocks S1x2112x256 k2_t3_loop.trips k2_off7 S1x352x256.size 1 352 := ⟨by decide +kernel, by decide +kernel, by decide, by decide, by decide⟩

/-! ## What the loops leave -/

/-- The codes of the block's rows, from the rows `x0` and the factors `x1`. -/
def xcodes (x0 : Vec F S256x7168 .bf16) (x1 : Vec F S1x7168 .f32) : Vec F S256x7168 .i8 :=
  filled k2_off1_inb fun k => k2_pay4 (View.ld x0 (R1 k)) x1
/-- The same codes as bfloat16. -/
def xquant (x0 : Vec F S256x7168 .bf16) (x1 : Vec F S1x7168 .f32) : Vec F S256x7168 .bf16 :=
  filled k2_off1_inb fun k => k2_pay5 (View.ld x0 (R1 k)) x1
/-- The rows' scales, each on 128 lanes. -/
def xscale (x0 : Vec F S256x7168 .bf16) (x1 : Vec F S1x7168 .f32) : Vec F S256x128 .f32 :=
  filled k2_off2_inb fun k => k2_pay6 (View.ld x0 (R1 k)) x1
/-- The layer's outputs, transposed, from the scales `v1`, the quantised rows `q`, the weight codes `x2`, the weight
    scales `x3` and the bias `x4`. -/
def zout (v1 : Vec F S256x128 .f32) (q : Vec F S256x7168 .bf16) (x2 : Vec F S2112x7168 .bf16) (x3 x4 : Vec F S2112x1 .f32) : Vec F S2112x256 .f32 :=
  filled k2_off5_inb fun k => k2_pay11 v1 (View.ld x2 (R3 k)) q (View.ld x3 (R4 k)) (View.ld x4 (R4 k))
/-- The largest absolute value per row over the trips before `k`. -/
def zmax (v1 : Vec F S256x128 .f32) (q : Vec F S256x7168 .bf16) (x2 : Vec F S2112x7168 .bf16) (x3 x4 : Vec F S2112x1 .f32) : Nat → FVec F S1x256 .f32
  | 0 => k2_pay9
  | k + 1 => if h : k < k2_t2_loop.trips then
      k2_pay12 v1 (zmax v1 q x2 x3 x4 k) (View.ld x2 (R3 ⟨k, h⟩)) q (View.ld x3 (R4 ⟨k, h⟩)) (View.ld x4 (R4 ⟨k, h⟩))
    else zmax v1 q x2 x3 x4 k
theorem zmax_succ (v1 : Vec F S256x128 .f32) (q : Vec F S256x7168 .bf16) (x2 : Vec F S2112x7168 .bf16) (x3 x4 : Vec F S2112x1 .f32) (k : Fin k2_t2_loop.trips) :
    zmax v1 q x2 x3 x4 (k.val + 1) = k2_pay12 v1 (zmax v1 q x2 x3 x4 k.val) (View.ld x2 (R3 k)) q (View.ld x3 (R4 k)) (View.ld x4 (R4 k)) := by
  rw [zmax, dif_pos k.isLt]
/-- The output codes, from the rows' largest absolute values `v9` and the outputs `z`. -/
def zcodes (v9 : FVec F S1x256 .f32) (z : Vec F S2112x256 .f32) : Vec F S1x2112x256 .i8 :=
  filled k2_off7_inb fun k => k2_pay15 v9 (View.ld z (R6 k))

/-! ## The generated piece lists are those blocks -/

theorem tripL1_eq (𝒱 : Variants) (c : Dev nD) (bd : Option 𝒱.V) (i : grid2.Coords) (arg1 : Memref sig .tc .vmem S256x7168 .bf16) (harg1 : arg1.IsWhole) (arg2 : Memref sig .tc .vmem S1x7168 .f32) (harg2 : arg2.IsWhole) (arg3 : Memref sig .tc .vmem S2112x7168 .bf16) (harg3 : arg3.IsWhole) (arg4 : Memref sig .tc .vmem S2112x1 .f32) (harg4 : arg4.IsWhole) (arg5 : Memref sig .tc .vmem S2112x1 .f32) (harg5 : arg5.IsWhole) (arg6 : Memref sig .tc .vmem S1x2112x256 .i8) (harg6 : arg6.IsWhole) (arg7 : Memref sig .tc .vmem S1x1x256 .f32) (harg7 : arg7.IsWhole) (arg8 : Memref sig .tc .vmem S256x7168 .i8) (harg8 : arg8.IsWhole) (arg9 : Memref sig .tc .vmem S1x1x256 .f32) (harg9 : arg9.IsWhole) (arg10 : Memref sig .tc .vmem S256x7168 .bf16) (harg10 : arg10.IsWhole) (arg11 : Memref sig .tc .vmem S2112x256 .f32) (harg11 : arg11.IsWhole) (arg12 : Memref sig .tc .vmem S256x128 .f32) (harg12 : arg12.IsWhole) (X1 : BufTy.Contents (Elt F) arg1.view.ty) (X2 : BufTy.Contents (Elt F) arg2.view.ty) (k : Fin k2_t1_loop.trips) :
    tripL_k2_t1 (F := F) 𝒱 c bd i arg1 harg1 arg2 harg2 arg3 harg3 arg4 harg4 arg5 harg5 arg6 harg6 arg7 harg7 arg8 harg8 arg9 harg9 arg10 harg10 arg11 harg11 arg12 harg12 X1 X2 k
      = ([⟨R1 k, k2_pay4 (View.ld (arg1.view.read (Elt F) X1) (R1 k)) (arg2.view.read (Elt F) X2)⟩],
         [⟨R1 k, k2_pay5 (View.ld (arg1.view.read (Elt F) X1) (R1 k)) (arg2.view.read (Elt F) X2)⟩],
         [⟨R2 k, k2_pay6 (View.ld (arg1.view.read (Elt F) X1) (R1 k)) (arg2.view.read (Elt F) X2)⟩]) := by
  conv_rhs => rw [← View.ld_unit_zero (S := S1x7168) hz2 inb_S1x7168_S1x7168_0_0 (arg2.view.read (Elt F) X2)]
  delta tripL_k2_t1 trip_k2_t1
  rfl

theorem pb1_eq (𝒱 : Variants) (c : Dev nD) (bd : Option 𝒱.V) (i : grid2.Coords) (arg1 : Memref sig .tc .vmem S256x7168 .bf16) (harg1 : arg1.IsWhole) (arg2 : Memref sig .tc .vmem S1x7168 .f32) (harg2 : arg2.IsWhole) (arg3 : Memref sig .tc .vmem S2112x7168 .bf16) (harg3 : arg3.IsWhole) (arg4 : Memref sig .tc .vmem S2112x1 .f32) (harg4 : arg4.IsWhole) (arg5 : Memref sig .tc .vmem S2112x1 .f32) (harg5 : arg5.IsWhole) (arg6 : Memref sig .tc .vmem S1x2112x256 .i8) (harg6 : arg6.IsWhole) (arg7 : Memref sig .tc .vmem S1x1x256 .f32) (harg7 : arg7.IsWhole) (arg8 : Memref sig .tc .vmem S256x7168 .i8) (harg8 : arg8.IsWhole) (arg9 : Memref sig .tc .vmem S1x1x256 .f32) (harg9 : arg9.IsWhole) (arg10 : Memref sig .tc .vmem S256x7168 .bf16) (harg10 : arg10.IsWhole) (arg11 : Memref sig .tc .vmem S2112x256 .f32) (harg11 : arg11.IsWhole) (arg12 : Memref sig .tc .vmem S256x128 .f32) (harg12 : arg12.IsWhole) (X1 : BufTy.Contents (Elt F) arg1.view.ty) (X2 : BufTy.Contents (Elt F) arg2.view.ty) : ∀ k, k ≤ k2_t1_loop.trips →
    pb_k2_t1 (F := F) 𝒱 c bd i arg1 harg1 arg2 harg2 arg3 harg3 arg4 harg4 arg5 harg5 arg6 harg6 arg7 harg7 arg8 harg8 arg9 harg9 arg10 harg10 arg11 harg11 arg12 harg12 X1 X2 k
      = (before (fun k => ⟨R1 k, k2_pay4 (View.ld (arg1.view.read (Elt F) X1) (R1 k)) (arg2.view.read (Elt F) X2)⟩) k,
         before (fun k => ⟨R1 k, k2_pay5 (View.ld (arg1.view.read (Elt F) X1) (R1 k)) (arg2.view.read (Elt F) X2)⟩) k,
         before (fun k => ⟨R2 k, k2_pay6 (View.ld (arg1.view.read (Elt F) X1) (R1 k)) (arg2.view.read (Elt F) X2)⟩) k)
  | 0, _ => by rw [pb_k2_t1.eq_1]; rfl
  | k + 1, hk => by
    have h := pb_k2_t1_succ (F := F) 𝒱 c bd i arg1 harg1 arg2 harg2 arg3 harg3 arg4 harg4 arg5 harg5 arg6 harg6 arg7 harg7 arg8 harg8 arg9 harg9 arg10 harg10 arg11 harg11 arg12 harg12 X1 X2 ⟨k, hk⟩
    rw [tripL1_eq, pb1_eq 𝒱 c bd i arg1 harg1 arg2 harg2 arg3 harg3 arg4 harg4 arg5 harg5 arg6 harg6 arg7 harg7 arg8 harg8 arg9 harg9 arg10 harg10 arg11 harg11 arg12 harg12 X1 X2 k (by omega)] at h
    refine h.trans ?_
    rw [before_succ _ ⟨k, hk⟩, before_succ _ ⟨k, hk⟩, before_succ _ ⟨k, hk⟩]
    rfl

theorem tripR2_eq (𝒱 : Variants) (c : Dev nD) (bd : Option 𝒱.V) (i : grid2.Coords) (arg1 : Memref sig .tc .vmem S256x7168 .bf16) (harg1 : arg1.IsWhole) (arg2 : Memref sig .tc .vmem S1x7168 .f32) (harg2 : arg2.IsWhole) (arg3 : Memref sig .tc .vmem S2112x7168 .bf16) (harg3 : arg3.IsWhole) (arg4 : Memref sig .tc .vmem S2112x1 .f32) (harg4 : arg4.IsWhole) (arg5 : Memref sig .tc .vmem S2112x1 .f32) (harg5 : arg5.IsWhole) (arg6 : Memref sig .tc .vmem S1x2112x256 .i8) (harg6 : arg6.IsWhole) (arg7 : Memref sig .tc .vmem S1x1x256 .f32) (harg7 : arg7.IsWhole) (arg8 : Memref sig .tc .vmem S256x7168 .i8) (harg8 : arg8.IsWhole) (arg9 : Memref sig .tc .vmem S1x1x256 .f32) (harg9 : arg9.IsWhole) (arg10 : Memref sig .tc .vmem S256x7168 .bf16) (harg10 : arg10.IsWhole) (arg11 : Memref sig .tc .vmem S2112x256 .f32) (harg11 : arg11.IsWhole) (arg12 : Memref sig .tc .vmem S256x128 .f32) (harg12 : arg12.IsWhole) (v1 : Vec F S256x128 .f32) (X3 : BufTy.Contents (Elt F) arg3.view.ty) (X4 : BufTy.Contents (Elt F) arg4.view.ty) (X5 : BufTy.Contents (Elt F) arg5.view.ty) (X10 : BufTy.Contents (Elt F) arg10.view.ty) (k : Fin k2_t2_loop.trips) (acc : FVec F S1x256 .f32) :
    tripR_k2_t2 (F := F) 𝒱 c bd i arg1 harg1 arg2 harg2 arg3 harg3 arg4 harg4 arg5 harg5 arg6 harg6 arg7 harg7 arg8 harg8 arg9 harg9 arg10 harg10 arg11 harg11 arg12 harg12 v1 X3 X4 X5 X10 k acc
      = k2_pay12 v1 acc (View.ld (arg3.view.read (Elt F) X3) (R3 k)) (arg10.view.read (Elt F) X10) (View.ld (arg4.view.read (Elt F) X4) (R4 k)) (View.ld (arg5.view.read (Elt F) X5) (R4 k)) := by
  conv_rhs => rw [← View.ld_unit_zero (S := S256x7168) hz2 inb_S256x7168_S256x7168_0_0 (arg10.view.read (Elt F) X10)]
  delta tripR_k2_t2 trip_k2_t2
  rfl

theorem tripL2_eq (𝒱 : Variants) (c : Dev nD) (bd : Option 𝒱.V) (i : grid2.Coords) (arg1 : Memref sig .tc .vmem S256x7168 .bf16) (harg1 : arg1.IsWhole) (arg2 : Memref sig .tc .vmem S1x7168 .f32) (harg2 : arg2.IsWhole) (arg3 : Memref sig .tc .vmem S2112x7168 .bf16) (harg3 : arg3.IsWhole) (arg4 : Memref sig .tc .vmem S2112x1 .f32) (harg4 : arg4.IsWhole) (arg5 : Memref sig .tc .vmem S2112x1 .f32) (harg5 : arg5.IsWhole) (arg6 : Memref sig .tc .vmem S1x2112x256 .i8) (harg6 : arg6.IsWhole) (arg7 : Memref sig .tc .vmem S1x1x256 .f32) (harg7 : arg7.IsWhole) (arg8 : Memref sig .tc .vmem S256x7168 .i8) (harg8 : arg8.IsWhole) (arg9 : Memref sig .tc .vmem S1x1x256 .f32) (harg9 : arg9.IsWhole) (arg10 : Memref sig .tc .vmem S256x7168 .bf16) (harg10 : arg10.IsWhole) (arg11 : Memref sig .tc .vmem S2112x256 .f32) (harg11 : arg11.IsWhole) (arg12 : Memref sig .tc .vmem S256x128 .f32) (harg12 : arg12.IsWhole) (v1 : Vec F S256x128 .f32) (X3 : BufTy.Contents (Elt F) arg3.view.ty) (X4 : BufTy.Contents (Elt F) arg4.view.ty) (X5 : BufTy.Contents (Elt F) arg5.view.ty) (X10 : BufTy.Contents (Elt F) arg10.view.ty) (k : Fin k2_t2_loop.trips) (acc : FVec F S1x256 .f32) :
    tripL_k2_t2 (F := F) 𝒱 c bd i arg1 harg1 arg2 harg2 arg3 harg3 arg4 harg4 arg5 harg5 arg6 harg6 arg7 harg7 arg8 harg8 arg9 harg9 arg10 harg10 arg11 harg11 arg12 harg12 v1 X3 X4 X5 X10 k acc
      = [⟨R5 k, k2_pay11 v1 (View.ld (arg3.view.read (Elt F) X3) (R3 k)) (arg10.view.read (Elt F) X10) (View.ld (arg4.view.read (Elt F) X4) (R4 k)) (View.ld (arg5.view.read (Elt F) X5) (R4 k))⟩] := by
  conv_rhs => rw [← View.ld_unit_zero (S := S256x7168) hz2 inb_S256x7168_S256x7168_0_0 (arg10.view.read (Elt F) X10)]
  delta tripL_k2_t2 trip_k2_t2
  rfl

theorem st2_eq (𝒱 : Variants) (c : Dev nD) (bd : Option 𝒱.V) (i : grid2.Coords) (arg1 : Memref sig .tc .vmem S256x7168 .bf16) (harg1 : arg1.IsWhole) (arg2 : Memref sig .tc .vmem S1x7168 .f32) (harg2 : arg2.IsWhole) (arg3 : Memref sig .tc .vmem S2112x7168 .bf16) (harg3 : arg3.IsWhole) (arg4 : Memref sig .tc .vmem S2112x1 .f32) (harg4 : arg4.IsWhole) (arg5 : Memref sig .tc .vmem S2112x1 .f32) (harg5 : arg5.IsWhole) (arg6 : Memref sig .tc .vmem S1x2112x256 .i8) (harg6 : arg6.IsWhole) (arg7 : Memref sig .tc .vmem S1x1x256 .f32) (harg7 : arg7.IsWhole) (arg8 : Memref sig .tc .vmem S256x7168 .i8) (harg8 : arg8.IsWhole) (arg9 : Memref sig .tc .vmem S1x1x256 .f32) (harg9 : arg9.IsWhole) (arg10 : Memref sig .tc .vmem S256x7168 .bf16) (harg10 : arg10.IsWhole) (arg11 : Memref sig .tc .vmem S2112x256 .f32) (harg11 : arg11.IsWhole) (arg12 : Memref sig .tc .vmem S256x128 .f32) (harg12 : arg12.IsWhole) (v1 : Vec F S256x128 .f32) (X3 : BufTy.Contents (Elt F) arg3.view.ty) (X4 : BufTy.Contents (Elt F) arg4.view.ty) (X5 : BufTy.Contents (Elt F) arg5.view.ty) (X10 : BufTy.Contents (Elt F) arg10.view.ty) : ∀ k, k ≤ k2_t2_loop.trips →
    st_k2_t2 (F := F) 𝒱 c bd i arg1 harg1 arg2 harg2 arg3 harg3 arg4 harg4 arg5 harg5 arg6 harg6 arg7 harg7 arg8 harg8 arg9 harg9 arg10 harg10 arg11 harg11 arg12 harg12 v1 X3 X4 X5 X10 (k2_pay9 (F := F)) k
      = (zmax v1 (arg10.view.read (Elt F) X10) (arg3.view.read (Elt F) X3) (arg4.view.read (Elt F) X4) (arg5.view.read (Elt F) X5) k,
         before (fun k => ⟨R5 k, k2_pay11 v1 (View.ld (arg3.view.read (Elt F) X3) (R3 k)) (arg10.view.read (Elt F) X10) (View.ld (arg4.view.read (Elt F) X4) (R4 k)) (View.ld (arg5.view.read (Elt F) X5) (R4 k))⟩) k)
  | 0, _ => by rw [st_k2_t2.eq_1]; rfl
  | k + 1, hk => by
    have h := st_k2_t2_succ (F := F) 𝒱 c bd i arg1 harg1 arg2 harg2 arg3 harg3 arg4 harg4 arg5 harg5 arg6 harg6 arg7 harg7 arg8 harg8 arg9 harg9 arg10 harg10 arg11 harg11 arg12 harg12 v1 X3 X4 X5 X10 (k2_pay9 (F := F)) ⟨k, hk⟩
    rw [tripR2_eq, tripL2_eq, st2_eq 𝒱 c bd i arg1 harg1 arg2 harg2 arg3 harg3 arg4 harg4 arg5 harg5 arg6 harg6 arg7 harg7 arg8 harg8 arg9 harg9 arg10 harg10 arg11 harg11 arg12 harg12 v1 X3 X4 X5 X10 k (by omega)] at h
    refine h.trans ?_
    rw [before_succ _ ⟨k, hk⟩]
    exact Prod.ext (zmax_succ v1 _ _ _ _ ⟨k, hk⟩).symm rfl

theorem tripL3_eq (𝒱 : Variants) (c : Dev nD) (bd : Option 𝒱.V) (i : grid2.Coords) (arg1 : Memref sig .tc .vmem S256x7168 .bf16) (harg1 : arg1.IsWhole) (arg2 : Memref sig .tc .vmem S1x7168 .f32) (harg2 : arg2.IsWhole) (arg3 : Memref sig .tc .vmem S2112x7168 .bf16) (harg3 : arg3.IsWhole) (arg4 : Memref sig .tc .vmem S2112x1 .f32) (harg4 : arg4.IsWhole) (arg5 : Memref sig .tc .vmem S2112x1 .f32) (harg5 : arg5.IsWhole) (arg6 : Memref sig .tc .vmem S1x2112x256 .i8) (harg6 : arg6.IsWhole) (arg7 : Memref sig .tc .vmem S1x1x256 .f32) (harg7 : arg7.IsWhole) (arg8 : Memref sig .tc .vmem S256x7168 .i8) (harg8 : arg8.IsWhole) (arg9 : Memref sig .tc .vmem S1x1x256 .f32) (harg9 : arg9.IsWhole) (arg10 : Memref sig .tc .vmem S256x7168 .bf16) (harg10 : arg10.IsWhole) (arg11 : Memref sig .tc .vmem S2112x256 .f32) (harg11 : arg11.IsWhole) (arg12 : Memref sig .tc .vmem S256x128 .f32) (harg12 : arg12.IsWhole) (v9 : FVec F S1x256 .f32) (X11 : BufTy.Contents (Elt F) arg11.view.ty) (k : Fin k2_t3_loop.trips) :
    tripL_k2_t3 (F := F) 𝒱 c bd i arg1 harg1 arg2 harg2 arg3 harg3 arg4 harg4 arg5 harg5 arg6 harg6 arg7 harg7 arg8 harg8 arg9 harg9 arg10 harg10 arg11 harg11 arg12 harg12 v9 X11 k
      = [⟨R7 k, k2_pay15 v9 (View.ld (arg11.view.read (Elt F) X11) (R6 k))⟩] := by
  delta tripL_k2_t3 trip_k2_t3
  rfl

theorem pb3_eq (𝒱 : Variants) (c : Dev nD) (bd : Option 𝒱.V) (i : grid2.Coords) (arg1 : Memref sig .tc .vmem S256x7168 .bf16) (harg1 : arg1.IsWhole) (arg2 : Memref sig .tc .vmem S1x7168 .f32) (harg2 : arg2.IsWhole) (arg3 : Memref sig .tc .vmem S2112x7168 .bf16) (harg3 : arg3.IsWhole) (arg4 : Memref sig .tc .vmem S2112x1 .f32) (harg4 : arg4.IsWhole) (arg5 : Memref sig .tc .vmem S2112x1 .f32) (harg5 : arg5.IsWhole) (arg6 : Memref sig .tc .vmem S1x2112x256 .i8) (harg6 : arg6.IsWhole) (arg7 : Memref sig .tc .vmem S1x1x256 .f32) (harg7 : arg7.IsWhole) (arg8 : Memref sig .tc .vmem S256x7168 .i8) (harg8 : arg8.IsWhole) (arg9 : Memref sig .tc .vmem S1x1x256 .f32) (harg9 : arg9.IsWhole) (arg10 : Memref sig .tc .vmem S256x7168 .bf16) (harg10 : arg10.IsWhole) (arg11 : Memref sig .tc .vmem S2112x256 .f32) (harg11 : arg11.IsWhole) (arg12 : Memref sig .tc .vmem S256x128 .f32) (harg12 : arg12.IsWhole) (v9 : FVec F S1x256 .f32) (X11 : BufTy.Contents (Elt F) arg11.view.ty) : ∀ k, k ≤ k2_t3_loop.trips →
    pb_k2_t3 (F := F) 𝒱 c bd i arg1 harg1 arg2 harg2 arg3 harg3 arg4 harg4 arg5 harg5 arg6 harg6 arg7 harg7 arg8 harg8 arg9 harg9 arg10 harg10 arg11 harg11 arg12 harg12 v9 X11 k
      = before (fun k => ⟨R7 k, k2_pay15 v9 (View.ld (arg11.view.read (Elt F) X11) (R6 k))⟩) k
  | 0, _ => by rw [pb_k2_t3.eq_1]; rfl
  | k + 1, hk => by
    have h := pb_k2_t3_succ (F := F) 𝒱 c bd i arg1 harg1 arg2 harg2 arg3 harg3 arg4 harg4 arg5 harg5 arg6 harg6 arg7 harg7 arg8 harg8 arg9 harg9 arg10 harg10 arg11 harg11 arg12 harg12 v9 X11 ⟨k, hk⟩
    rw [tripL3_eq, pb3_eq 𝒱 c bd i arg1 harg1 arg2 harg2 arg3 harg3 arg4 harg4 arg5 harg5 arg6 harg6 arg7 harg7 arg8 harg8 arg9 harg9 arg10 harg10 arg11 harg11 arg12 harg12 v9 X11 k (by omega)] at h
    refine h.trans ?_
    rw [before_succ _ ⟨k, hk⟩]
    rfl

end Cert.Kernel.Run

end
-- ==== Proof.RunBits.Linear.lean ====
/- The third call of @main, the linear layer: what its body leaves at every grid point, as explicit contents of the
   blocks it reads. -/
module

public import proofs.«01_k».proof.Proof.RunBits.Loops

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The layer's outputs on a block. -/
def out2_z (x0 : Vec F S256x7168 .bf16) (x1 : Vec F S1x7168 .f32) (x2 : Vec F S2112x7168 .bf16) (x3 x4 : Vec F S2112x1 .f32) : Vec F S2112x256 .f32 :=
  zout (xscale x0 x1) (xquant x0 x1) x2 x3 x4
/-- Their largest absolute values, per row. -/
def out2_m (x0 : Vec F S256x7168 .bf16) (x1 : Vec F S1x7168 .f32) (x2 : Vec F S2112x7168 .bf16) (x3 x4 : Vec F S2112x1 .f32) : FVec F S1x256 .f32 :=
  zmax (xscale x0 x1) (xquant x0 x1) x2 x3 x4 k2_t2_loop.trips
/-- The output codes' block after the body. -/
def out2_5 (x0 : Vec F S256x7168 .bf16) (x1 : Vec F S1x7168 .f32) (x2 : Vec F S2112x7168 .bf16) (x3 x4 : Vec F S2112x1 .f32) : Vec F S1x2112x256 .i8 :=
  zcodes (out2_m x0 x1 x2 x3 x4) (out2_z x0 x1 x2 x3 x4)
/-- The output scales' block after the body. -/
def out2_6 (x0 : Vec F S256x7168 .bf16) (x1 : Vec F S1x7168 .f32) (x2 : Vec F S2112x7168 .bf16) (x3 x4 : Vec F S2112x1 .f32) : Vec F S1x1x256 .f32 :=
  k2_pay14 (out2_m x0 x1 x2 x3 x4)

/-- After the first loop the codes' buffer holds the codes. -/
theorem read_xcodes {𝒱 : Variants} {c : Dev nD} {bd : Option 𝒱.V} {i : grid2.Coords} {arg1 : Memref sig .tc .vmem S256x7168 .bf16} {harg1 : arg1.IsWhole} {arg2 : Memref sig .tc .vmem S1x7168 .f32} {harg2 : arg2.IsWhole} {arg3 : Memref sig .tc .vmem S2112x7168 .bf16} {harg3 : arg3.IsWhole} {arg4 : Memref sig .tc .vmem S2112x1 .f32} {harg4 : arg4.IsWhole} {arg5 : Memref sig .tc .vmem S2112x1 .f32} {harg5 : arg5.IsWhole} {arg6 : Memref sig .tc .vmem S1x2112x256 .i8} {harg6 : arg6.IsWhole} {arg7 : Memref sig .tc .vmem S1x1x256 .f32} {harg7 : arg7.IsWhole} {arg8 : Memref sig .tc .vmem S256x7168 .i8} {harg8 : arg8.IsWhole} {arg9 : Memref sig .tc .vmem S1x1x256 .f32} {harg9 : arg9.IsWhole} {arg10 : Memref sig .tc .vmem S256x7168 .bf16} {harg10 : arg10.IsWhole} {arg11 : Memref sig .tc .vmem S2112x256 .f32} {harg11 : arg11.IsWhole} {arg12 : Memref sig .tc .vmem S256x128 .f32} {harg12 : arg12.IsWhole} (f1 : BufTy.Contents (Elt F) arg1.view.ty) (f2 : BufTy.Contents (Elt F) arg2.view.ty) (f8 : BufTy.Contents (Elt F) arg8.view.ty) :
    arg8.view.read (Elt F) (arg8.view.writes (Elt F) f8 (pb_k2_t1 (F := F) 𝒱 c bd i arg1 harg1 arg2 harg2 arg3 harg3 arg4 harg4 arg5 harg5 arg6 harg6 arg7 harg7 arg8 harg8 arg9 harg9 arg10 harg10 arg11 harg11 arg12 harg12 f1 f2 (Scf.trips k2_t1_loop.lb k2_t1_loop.ub k2_t1_loop.st)).1)
      = xcodes (arg1.view.read (Elt F) f1) (arg2.view.read (Elt F) f2) := by
  rw [show Scf.trips k2_t1_loop.lb k2_t1_loop.ub k2_t1_loop.st = k2_t1_loop.trips from rfl, pb1_eq (F := F) 𝒱 c bd i arg1 harg1 arg2 harg2 arg3 harg3 arg4 harg4 arg5 harg5 arg6 harg6 arg7 harg7 arg8 harg8 arg9 harg9 arg10 harg10 arg11 harg11 arg12 harg12 f1 f2 _ (le_refl _)]
  exact read_before blocks1 k2_off1_inb _ _ _

/-- After the first loop the first scratch holds the codes as bfloat16. -/
theorem read_xquant {𝒱 : Variants} {c : Dev nD} {bd : Option 𝒱.V} {i : grid2.Coords} {arg1 : Memref sig .tc .vmem S256x7168 .bf16} {harg1 : arg1.IsWhole} {arg2 : Memref sig .tc .vmem S1x7168 .f32} {harg2 : arg2.IsWhole} {arg3 : Memref sig .tc .vmem S2112x7168 .bf16} {harg3 : arg3.IsWhole} {arg4 : Memref sig .tc .vmem S2112x1 .f32} {harg4 : arg4.IsWhole} {arg5 : Memref sig .tc .vmem S2112x1 .f32} {harg5 : arg5.IsWhole} {arg6 : Memref sig .tc .vmem S1x2112x256 .i8} {harg6 : arg6.IsWhole} {arg7 : Memref sig .tc .vmem S1x1x256 .f32} {harg7 : arg7.IsWhole} {arg8 : Memref sig .tc .vmem S256x7168 .i8} {harg8 : arg8.IsWhole} {arg9 : Memref sig .tc .vmem S1x1x256 .f32} {harg9 : arg9.IsWhole} {arg10 : Memref sig .tc .vmem S256x7168 .bf16} {harg10 : arg10.IsWhole} {arg11 : Memref sig .tc .vmem S2112x256 .f32} {harg11 : arg11.IsWhole} {arg12 : Memref sig .tc .vmem S256x128 .f32} {harg12 : arg12.IsWhole} (f1 : BufTy.Contents (Elt F) arg1.view.ty) (f2 : BufTy.Contents (Elt F) arg2.view.ty) (f10 : BufTy.Contents (Elt F) arg10.view.ty) :
    arg10.view.read (Elt F) (arg10.view.writes (Elt F) f10 (pb_k2_t1 (F := F) 𝒱 c bd i arg1 harg1 arg2 harg2 arg3 harg3 arg4 harg4 arg5 harg5 arg6 harg6 arg7 harg7 arg8 harg8 arg9 harg9 arg10 harg10 arg11 harg11 arg12 harg12 f1 f2 (Scf.trips k2_t1_loop.lb k2_t1_loop.ub k2_t1_loop.st)).2.1)
      = xquant (arg1.view.read (Elt F) f1) (arg2.view.read (Elt F) f2) := by
  rw [show Scf.trips k2_t1_loop.lb k2_t1_loop.ub k2_t1_loop.st = k2_t1_loop.trips from rfl, pb1_eq (F := F) 𝒱 c bd i arg1 harg1 arg2 harg2 arg3 harg3 arg4 harg4 arg5 harg5 arg6 harg6 arg7 harg7 arg8 harg8 arg9 harg9 arg10 harg10 arg11 harg11 arg12 harg12 f1 f2 _ (le_refl _)]
  exact read_before blocks1 k2_off1_inb _ _ _

/-- After the first loop the third scratch holds the scales. -/
theorem load_xscale {𝒱 : Variants} {c : Dev nD} {bd : Option 𝒱.V} {i : grid2.Coords} {arg1 : Memref sig .tc .vmem S256x7168 .bf16} {harg1 : arg1.IsWhole} {arg2 : Memref sig .tc .vmem S1x7168 .f32} {harg2 : arg2.IsWhole} {arg3 : Memref sig .tc .vmem S2112x7168 .bf16} {harg3 : arg3.IsWhole} {arg4 : Memref sig .tc .vmem S2112x1 .f32} {harg4 : arg4.IsWhole} {arg5 : Memref sig .tc .vmem S2112x1 .f32} {harg5 : arg5.IsWhole} {arg6 : Memref sig .tc .vmem S1x2112x256 .i8} {harg6 : arg6.IsWhole} {arg7 : Memref sig .tc .vmem S1x1x256 .f32} {harg7 : arg7.IsWhole} {arg8 : Memref sig .tc .vmem S256x7168 .i8} {harg8 : arg8.IsWhole} {arg9 : Memref sig .tc .vmem S1x1x256 .f32} {harg9 : arg9.IsWhole} {arg10 : Memref sig .tc .vmem S256x7168 .bf16} {harg10 : arg10.IsWhole} {arg11 : Memref sig .tc .vmem S2112x256 .f32} {harg11 : arg11.IsWhole} {arg12 : Memref sig .tc .vmem S256x128 .f32} {harg12 : arg12.IsWhole} (f1 : BufTy.Contents (Elt F) arg1.view.ty) (f2 : BufTy.Contents (Elt F) arg2.view.ty) (f12 : BufTy.Contents (Elt F) arg12.view.ty) :
    View.readAt (Elt F) arg12.view (Rect.unit (s := S256x128) ![0, 0] S256x128.size inb_S256x128_S256x128_0_0).toLoadRect (arg12.view.writes (Elt F) f12 (pb_k2_t1 (F := F) 𝒱 c bd i arg1 harg1 arg2 harg2 arg3 harg3 arg4 harg4 arg5 harg5 arg6 harg6 arg7 harg7 arg8 harg8 arg9 harg9 arg10 harg10 arg11 harg11 arg12 harg12 f1 f2 (Scf.trips k2_t1_loop.lb k2_t1_loop.ub k2_t1_loop.st)).2.2)
      = xscale (arg1.view.read (Elt F) f1) (arg2.view.read (Elt F) f2) := by
  rw [View.readAt_eq_ld, View.ld_unit_zero (S := S256x128) hz2, show Scf.trips k2_t1_loop.lb k2_t1_loop.ub k2_t1_loop.st = k2_t1_loop.trips from rfl, pb1_eq (F := F) 𝒱 c bd i arg1 harg1 arg2 harg2 arg3 harg3 arg4 harg4 arg5 harg5 arg6 harg6 arg7 harg7 arg8 harg8 arg9 harg9 arg10 harg10 arg11 harg11 arg12 harg12 f1 f2 _ (le_refl _)]
  exact read_before blocks2 k2_off2_inb _ _ _

/-- The second loop carries out the largest absolute values. -/
theorem zmax_eq {𝒱 : Variants} {c : Dev nD} {bd : Option 𝒱.V} {i : grid2.Coords} {arg1 : Memref sig .tc .vmem S256x7168 .bf16} {harg1 : arg1.IsWhole} {arg2 : Memref sig .tc .vmem S1x7168 .f32} {harg2 : arg2.IsWhole} {arg3 : Memref sig .tc .vmem S2112x7168 .bf16} {harg3 : arg3.IsWhole} {arg4 : Memref sig .tc .vmem S2112x1 .f32} {harg4 : arg4.IsWhole} {arg5 : Memref sig .tc .vmem S2112x1 .f32} {harg5 : arg5.IsWhole} {arg6 : Memref sig .tc .vmem S1x2112x256 .i8} {harg6 : arg6.IsWhole} {arg7 : Memref sig .tc .vmem S1x1x256 .f32} {harg7 : arg7.IsWhole} {arg8 : Memref sig .tc .vmem S256x7168 .i8} {harg8 : arg8.IsWhole} {arg9 : Memref sig .tc .vmem S1x1x256 .f32} {harg9 : arg9.IsWhole} {arg10 : Memref sig .tc .vmem S256x7168 .bf16} {harg10 : arg10.IsWhole} {arg11 : Memref sig .tc .vmem S2112x256 .f32} {harg11 : arg11.IsWhole} {arg12 : Memref sig .tc .vmem S256x128 .f32} {harg12 : arg12.IsWhole} (f1 : BufTy.Contents (Elt F) arg1.view.ty) (f2 : BufTy.Contents (Elt F) arg2.view.ty) (v1 : Vec F S256x128 .f32) (f3 : BufTy.Contents (Elt F) arg3.view.ty) (f4 : BufTy.Contents (Elt F) arg4.view.ty) (f5 : BufTy.Contents (Elt F) arg5.view.ty) (f10 : BufTy.Contents (Elt F) arg10.view.ty) :
    (st_k2_t2 (F := F) 𝒱 c bd i arg1 harg1 arg2 harg2 arg3 harg3 arg4 harg4 arg5 harg5 arg6 harg6 arg7 harg7 arg8 harg8 arg9 harg9 arg10 harg10 arg11 harg11 arg12 harg12 v1 f3 f4 f5 (arg10.view.writes (Elt F) f10 (pb_k2_t1 (F := F) 𝒱 c bd i arg1 harg1 arg2 harg2 arg3 harg3 arg4 harg4 arg5 harg5 arg6 harg6 arg7 harg7 arg8 harg8 arg9 harg9 arg10 harg10 arg11 harg11 arg12 harg12 f1 f2 (Scf.trips k2_t1_loop.lb k2_t1_loop.ub k2_t1_loop.st)).2.1) (k2_pay9 (F := F)) (Scf.trips k2_t2_loop.lb k2_t2_loop.ub k2_t2_loop.st)).1
      = zmax v1 (xquant (arg1.view.read (Elt F) f1) (arg2.view.read (Elt F) f2)) (arg3.view.read (Elt F) f3) (arg4.view.read (Elt F) f4) (arg5.view.read (Elt F) f5) k2_t2_loop.trips := by
  rw [show Scf.trips k2_t2_loop.lb k2_t2_loop.ub k2_t2_loop.st = k2_t2_loop.trips from rfl, st2_eq (F := F) 𝒱 c bd i arg1 harg1 arg2 harg2 arg3 harg3 arg4 harg4 arg5 harg5 arg6 harg6 arg7 harg7 arg8 harg8 arg9 harg9 arg10 harg10 arg11 harg11 arg12 harg12 v1 f3 f4 f5 _ _ (le_refl _), read_xquant (F := F)]

/-- After the second loop the second scratch holds the outputs. -/
theorem read_zout {𝒱 : Variants} {c : Dev nD} {bd : Option 𝒱.V} {i : grid2.Coords} {arg1 : Memref sig .tc .vmem S256x7168 .bf16} {harg1 : arg1.IsWhole} {arg2 : Memref sig .tc .vmem S1x7168 .f32} {harg2 : arg2.IsWhole} {arg3 : Memref sig .tc .vmem S2112x7168 .bf16} {harg3 : arg3.IsWhole} {arg4 : Memref sig .tc .vmem S2112x1 .f32} {harg4 : arg4.IsWhole} {arg5 : Memref sig .tc .vmem S2112x1 .f32} {harg5 : arg5.IsWhole} {arg6 : Memref sig .tc .vmem S1x2112x256 .i8} {harg6 : arg6.IsWhole} {arg7 : Memref sig .tc .vmem S1x1x256 .f32} {harg7 : arg7.IsWhole} {arg8 : Memref sig .tc .vmem S256x7168 .i8} {harg8 : arg8.IsWhole} {arg9 : Memref sig .tc .vmem S1x1x256 .f32} {harg9 : arg9.IsWhole} {arg10 : Memref sig .tc .vmem S256x7168 .bf16} {harg10 : arg10.IsWhole} {arg11 : Memref sig .tc .vmem S2112x256 .f32} {harg11 : arg11.IsWhole} {arg12 : Memref sig .tc .vmem S256x128 .f32} {harg12 : arg12.IsWhole} (f1 : BufTy.Contents (Elt F) arg1.view.ty) (f2 : BufTy.Contents (Elt F) arg2.view.ty) (v1 : Vec F S256x128 .f32) (f3 : BufTy.Contents (Elt F) arg3.view.ty) (f4 : BufTy.Contents (Elt F) arg4.view.ty) (f5 : BufTy.Contents (Elt F) arg5.view.ty) (f10 : BufTy.Contents (Elt F) arg10.view.ty) (f11 : BufTy.Contents (Elt F) arg11.view.ty) :
    arg11.view.read (Elt F) (arg11.view.writes (Elt F) f11 (st_k2_t2 (F := F) 𝒱 c bd i arg1 harg1 arg2 harg2 arg3 harg3 arg4 harg4 arg5 harg5 arg6 harg6 arg7 harg7 arg8 harg8 arg9 harg9 arg10 harg10 arg11 harg11 arg12 harg12 v1 f3 f4 f5 (arg10.view.writes (Elt F) f10 (pb_k2_t1 (F := F) 𝒱 c bd i arg1 harg1 arg2 harg2 arg3 harg3 arg4 harg4 arg5 harg5 arg6 harg6 arg7 harg7 arg8 harg8 arg9 harg9 arg10 harg10 arg11 harg11 arg12 harg12 f1 f2 (Scf.trips k2_t1_loop.lb k2_t1_loop.ub k2_t1_loop.st)).2.1) (k2_pay9 (F := F)) (Scf.trips k2_t2_loop.lb k2_t2_loop.ub k2_t2_loop.st)).2)
      = zout v1 (xquant (arg1.view.read (Elt F) f1) (arg2.view.read (Elt F) f2)) (arg3.view.read (Elt F) f3) (arg4.view.read (Elt F) f4) (arg5.view.read (Elt F) f5) := by
  rw [show Scf.trips k2_t2_loop.lb k2_t2_loop.ub k2_t2_loop.st = k2_t2_loop.trips from rfl, st2_eq (F := F) 𝒱 c bd i arg1 harg1 arg2 harg2 arg3 harg3 arg4 harg4 arg5 harg5 arg6 harg6 arg7 harg7 arg8 harg8 arg9 harg9 arg10 harg10 arg11 harg11 arg12 harg12 v1 f3 f4 f5 _ _ (le_refl _), read_xquant (F := F)]
  exact read_before blocks5 k2_off5_inb _ _ _

/-- After the third loop the output codes' buffer holds the codes. -/
theorem read_zcodes {𝒱 : Variants} {c : Dev nD} {bd : Option 𝒱.V} {i : grid2.Coords} {arg1 : Memref sig .tc .vmem S256x7168 .bf16} {harg1 : arg1.IsWhole} {arg2 : Memref sig .tc .vmem S1x7168 .f32} {harg2 : arg2.IsWhole} {arg3 : Memref sig .tc .vmem S2112x7168 .bf16} {harg3 : arg3.IsWhole} {arg4 : Memref sig .tc .vmem S2112x1 .f32} {harg4 : arg4.IsWhole} {arg5 : Memref sig .tc .vmem S2112x1 .f32} {harg5 : arg5.IsWhole} {arg6 : Memref sig .tc .vmem S1x2112x256 .i8} {harg6 : arg6.IsWhole} {arg7 : Memref sig .tc .vmem S1x1x256 .f32} {harg7 : arg7.IsWhole} {arg8 : Memref sig .tc .vmem S256x7168 .i8} {harg8 : arg8.IsWhole} {arg9 : Memref sig .tc .vmem S1x1x256 .f32} {harg9 : arg9.IsWhole} {arg10 : Memref sig .tc .vmem S256x7168 .bf16} {harg10 : arg10.IsWhole} {arg11 : Memref sig .tc .vmem S2112x256 .f32} {harg11 : arg11.IsWhole} {arg12 : Memref sig .tc .vmem S256x128 .f32} {harg12 : arg12.IsWhole} (f1 : BufTy.Contents (Elt F) arg1.view.ty) (f2 : BufTy.Contents (Elt F) arg2.view.ty) (v1 : Vec F S256x128 .f32) (f3 : BufTy.Contents (Elt F) arg3.view.ty) (f4 : BufTy.Contents (Elt F) arg4.view.ty) (f5 : BufTy.Contents (Elt F) arg5.view.ty) (f10 : BufTy.Contents (Elt F) arg10.view.ty) (v9 : FVec F S1x256 .f32) (f11 : BufTy.Contents (Elt F) arg11.view.ty) (f6 : BufTy.Contents (Elt F) arg6.view.ty) :
    arg6.view.read (Elt F) (arg6.view.writes (Elt F) f6 (pb_k2_t3 (F := F) 𝒱 c bd i arg1 harg1 arg2 harg2 arg3 harg3 arg4 harg4 arg5 harg5 arg6 harg6 arg7 harg7 arg8 harg8 arg9 harg9 arg10 harg10 arg11 harg11 arg12 harg12 v9 (arg11.view.writes (Elt F) f11 (st_k2_t2 (F := F) 𝒱 c bd i arg1 harg1 arg2 harg2 arg3 harg3 arg4 harg4 arg5 harg5 arg6 harg6 arg7 harg7 arg8 harg8 arg9 harg9 arg10 harg10 arg11 harg11 arg12 harg12 v1 f3 f4 f5 (arg10.view.writes (Elt F) f10 (pb_k2_t1 (F := F) 𝒱 c bd i arg1 harg1 arg2 harg2 arg3 harg3 arg4 harg4 arg5 harg5 arg6 harg6 arg7 harg7 arg8 harg8 arg9 harg9 arg10 harg10 arg11 harg11 arg12 harg12 f1 f2 (Scf.trips k2_t1_loop.lb k2_t1_loop.ub k2_t1_loop.st)).2.1) (k2_pay9 (F := F)) (Scf.trips k2_t2_loop.lb k2_t2_loop.ub k2_t2_loop.st)).2) (Scf.trips k2_t3_loop.lb k2_t3_loop.ub k2_t3_loop.st)))
      = zcodes v9 (zout v1 (xquant (arg1.view.read (Elt F) f1) (arg2.view.read (Elt F) f2)) (arg3.view.read (Elt F) f3) (arg4.view.read (Elt F) f4) (arg5.view.read (Elt F) f5)) := by
  rw [show Scf.trips k2_t3_loop.lb k2_t3_loop.ub k2_t3_loop.st = k2_t3_loop.trips from rfl, pb3_eq (F := F) 𝒱 c bd i arg1 harg1 arg2 harg2 arg3 harg3 arg4 harg4 arg5 harg5 arg6 harg6 arg7 harg7 arg8 harg8 arg9 harg9 arg10 harg10 arg11 harg11 arg12 harg12 _ _ _ (le_refl _), read_zout (F := F)]
  exact read_before blocks7 k2_off7_inb _ _ _

set_option maxHeartbeats 2000000 in
/-- The body on whole memrefs, the inputs at read contents, the outputs and the scratches at anything, leaves the inputs
    as they were, the outputs at the explicit contents and the scratches at something. -/
theorem sound_kernel2 (c : Dev nD) (E : Set ℕ) (i : grid2.Coords) (arg1 : Memref sig .tc .vmem S256x7168 .bf16) (harg1 : arg1.IsWhole) (arg2 : Memref sig .tc .vmem S1x7168 .f32) (harg2 : arg2.IsWhole) (arg3 : Memref sig .tc .vmem S2112x7168 .bf16) (harg3 : arg3.IsWhole) (arg4 : Memref sig .tc .vmem S2112x1 .f32) (harg4 : arg4.IsWhole) (arg5 : Memref sig .tc .vmem S2112x1 .f32) (harg5 : arg5.IsWhole) (arg6 : Memref sig .tc .vmem S1x2112x256 .i8) (harg6 : arg6.IsWhole) (arg7 : Memref sig .tc .vmem S1x1x256 .f32) (harg7 : arg7.IsWhole) (arg8 : Memref sig .tc .vmem S256x7168 .i8) (harg8 : arg8.IsWhole) (arg9 : Memref sig .tc .vmem S1x1x256 .f32) (harg9 : arg9.IsWhole) (arg10 : Memref sig .tc .vmem S256x7168 .bf16) (harg10 : arg10.IsWhole) (arg11 : Memref sig .tc .vmem S2112x256 .f32) (harg11 : arg11.IsWhole) (arg12 : Memref sig .tc .vmem S256x128 .f32) (harg12 : arg12.IsWhole) (x0 : Vec F S256x7168 .bf16) (x1 : Vec F S1x7168 .f32) (x2 : Vec F S2112x7168 .bf16) (x3 x4 : Vec F S2112x1 .f32) (K : PUnit.{1} → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out2_5 x0 x1 x2 x3 x4) ∗ owns (c : Thread nD τ) arg7 fullShare (out2_6 x0 x1 x2 x3 x4) ∗ owns (c : Thread nD τ) arg8 fullShare (xcodes x0 x1) ∗ owns (c : Thread nD τ) arg9 fullShare (k2_pay8 (xscale x0 x1)) ∗ (∃ d, owns (c : Thread nD τ) arg10 fullShare d) ∗ (∃ d, owns (c : Thread nD τ) arg11 fullShare d) ∗ (∃ d, owns (c : Thread nD τ) arg12 fullShare d)) -∗ K ⟨⟩))
      ⊢ wp frame (wpE (defs₀ (F := F)) Variants.none c none) E (cc2_linear i arg1 harg1 arg2 harg2 arg3 harg3 arg4 harg4 arg5 harg5 arg6 harg6 arg7 harg7 arg8 harg8 arg9 harg9 arg10 harg10 arg11 harg11 arg12 harg12) K := by
  simp only [cc2_linear_eq_skeleton]; unfold cc2_linear_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_words
    unfold out2_5 out2_m out2_z; rw [load_xscale (F := F), zmax_eq (F := F)]; exact read_zcodes (F := F) _ _ _ _ _ _ _ _ _ _
  isplitl [H7]
  · iexists _; isplitr
    swap; · iexact H7
    ipureintro
    sl_unfold_words
    rw [read_writes_full _ _ hz3]; unfold out2_6 out2_m; rw [load_xscale (F := F), zmax_eq (F := F)]
  isplitl [H8]
  · iexists _; isplitr
    swap; · iexact H8
    ipureintro
    sl_unfold_words
    exact read_xcodes (F := F) _ _ _
  isplitl [H9]
  · iexists _; isplitr
    swap; · iexact H9
    ipureintro
    sl_unfold_words
    rw [read_writes_full _ _ hz3]; exact congrArg k2_pay8 (load_xscale (F := F) _ _ _)
  isplitl [H10]
  · iexists _, _; isplitr
    swap; · iexact H10
    ipureintro; rfl
  isplitl [H11]
  · iexists _, _; isplitr
    swap; · iexact H11
    ipureintro; rfl
  · iexists _, _; isplitr
    swap; · iexact H12
    ipureintro; rfl

variable (V : Bufs F)

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's staging buffer holds its block at every point, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- The proof data of the call on core `c`: the arrays as the region finds them; after the body each input's buffer at its
    block, each output's at the explicit contents; the scratches at anything between the points. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
    | ⟨6, _⟩ => out2_6 (iblk2 V c 0 t) (iblk2 V c 1 t) (iblk2 V c 2 t) (iblk2 V c 3 t) (iblk2 V c 4 t)
    | ⟨7, _⟩ => xcodes (iblk2 V c 0 t) (iblk2 V c 1 t)
    | ⟨8, _⟩ => k2_pay8 (xscale (iblk2 V c 0 t) (iblk2 V c 1 t))
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) := by dsimp only [dat2]
theorem after2_7 (c : Dev nD) (t : Fin cfg2.N) : (dat2 V c).after 7 t = xcodes (iblk2 V c 0 t) (iblk2 V c 1 t) := by dsimp only [dat2]
theorem after2_8 (c : Dev nD) (t : Fin cfg2.N) : (dat2 V c).after 8 t = k2_pay8 (xscale (iblk2 V c 0 t) (iblk2 V c 1 t)) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- What is left of the kernel's memory besides its three scratches. -/
abbrev Rest2 (c : Dev nD) : sProp 𝕄 := Pipeline.scopedRestBut (Ix := Unit) (Name := ℕ) (U := UR sig nD τ) (Lvl := ℕ) spec2 c [cc2_scratch0, cc2_scratch1, cc2_scratch2]

/-- The invariant, opened: the three scratches at anything, the rest, the generator register. -/
theorem PhiA2_eq (c : Dev nD) : (Pipeline.ΦA spec2 c : sProp 𝕄) =
    iprop((((∃ d, owns (c : Thread nD τ) (Memref.whole cc2_scratch0) fullShare d) ∗ (∃ d, owns (c : Thread nD τ) (Memref.whole cc2_scratch1) fullShare d)
      ∗ (∃ d, owns (c : Thread nD τ) (Memref.whole cc2_scratch2) fullShare d)) ∗ Rest2 (F := F) c) ∗ (∃ r, prngReg c r)) := by
  unfold Pipeline.ΦA
  rw [Pipeline.scopedRest_split_of_list spec2 c [cc2_scratch0, cc2_scratch1, cc2_scratch2] (by decide) (by decide)]
  simp only [BI.bigSepL_cons_cons, BI.bigSepL_singleton, owns_whole]; rfl

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t))

/-- The body at any point. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = Pipeline.ΦA spec2 c from rfl, show (dat2 V c).Φ t.castSucc = Pipeline.ΦA spec2 c from rfl,
    show (dat2 V c).owesAt () t.succ = (dat2 V c).owesAt () t.castSucc from rfl, PhiA2_eq,
    after2_0, after2_1, after2_2, after2_3, after2_4, after2_5, after2_6, after2_7, after2_8]
  iintro ⟨⟨⟨⟨HS0, HS1, HS2⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel2 c Set.univ (grid2.coords t) _ _ _ _ _ _ _ _ _ _ _ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [HS0]; · iexact HS0
  isplitl [HS1]; · iexact HS1
  isplitl [HS2]; · iexact HS2
  iintro ⟨H0, H1, H2, H3, H4, H5, H6, H7, H8, HS0, HS1, HS2⟩
  isplitl [HS0 HS1 HS2 HR Hg]
  · isplitr [Hg]
    · isplitr [HR]
      · isplitl [HS0]; · iexact HS0
        isplitl [HS1]; · iexact HS1
        iexact HS2
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point. -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Cert.Kernel.Run

end
-- ==== Proof.RunBits.Run.lean ====
/- The run of @main: three calls among stretches of host operations. The contents of every buffer at every boundary, and
   what every final state holds: every buffer of the device memory at the last boundary's contents, every counter at zero. -/
module

public import proofs.«01_k».proof.Proof.RunBits.Linear
public import Idealize.ShloMosaic.Lib.Pipeline.RegionsLoop
public import Idealize.ShloMosaic.Lib.Pipeline.FrameSuffix

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's argument arrays. -/
abbrev argRefs : List (Ref sig .tc) := [main_arg0, main_arg1, main_arg2, main_arg3]

/-! ## The host stretches -/

/-- No operation of the stretch allocates a buffer. -/
theorem hostOps0_fresh : (hostOps0 : List (HloOp τ sig (Elt F))).Forall fun op => op.fresh = ∅ := by
  simp only [List.Forall]; repeat' constructor
/-- The reference each of its operations writes, in order. -/
abbrev hostOps0_W : List (Ref sig .tc) := [main_v0, main_v1, main_v2]
theorem hostOps0_writes : (hostOps0 : List (HloOp τ sig (Elt F))).Forall fun op => op.writes ⊆ (hostOps0_W.map (Proc.devRef (τ := τ) .tc)).toFinset :=
  StableHlo.forall_writes_sub_of_map rfl
/-- It writes no argument array. -/
theorem hostOps0_args : ∀ a ∈ argRefs, a ∉ hostOps0_W := ListAll.forall_mem_of_all_decide (by decide +kernel)

/-- No operation of the stretch allocates a buffer. -/
theorem hostOps2_fresh : (hostOps2 : List (HloOp τ sig (Elt F))).Forall fun op => op.fresh = ∅ := by
  simp only [List.Forall]; repeat' constructor
/-- The reference each of its operations writes, in order. -/
abbrev hostOps2_W : List (Ref sig .tc) := [main_v5]
theorem hostOps2_writes : (hostOps2 : List (HloOp τ sig (Elt F))).Forall fun op => op.writes ⊆ (hostOps2_W.map (Proc.devRef (τ := τ) .tc)).toFinset :=
  StableHlo.forall_writes_sub_of_map rfl
/-- It writes no argument array. -/
theorem hostOps2_args : ∀ a ∈ argRefs, a ∉ hostOps2_W := ListAll.forall_mem_of_all_decide (by decide +kernel)

/-- No operation of the stretch allocates a buffer. -/
theorem hostOps3_fresh : (hostOps3 : List (HloOp τ sig (Elt F))).Forall fun op => op.fresh = ∅ := by
  simp only [List.Forall]; repeat' constructor
/-- The reference each of its operations writes, in order. -/
abbrev hostOps3_W : List (Ref sig .tc) := [main_v7, main_v8, main_v9, main_v10, main_v11, main_v12, main_v13]
theorem hostOps3_writes : (hostOps3 : List (HloOp τ sig (Elt F))).Forall fun op => op.writes ⊆ (hostOps3_W.map (Proc.devRef (τ := τ) .tc)).toFinset :=
  StableHlo.forall_writes_sub_of_map rfl
/-- It writes no argument array. -/
theorem hostOps3_args : ∀ a ∈ argRefs, a ∉ hostOps3_W := ListAll.forall_mem_of_all_decide (by decide +kernel)

/-! ## The buffers' contents at each boundary -/

/-- At launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After the stretch of host operations 0. -/
abbrev W1 : Dev nD → Valuation τ sig (Elt F) := fun c => StableHlo.after hostOps0 (W0 m ρ c)
/-- A reference the stretch does not write keeps its contents. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same, read at the TensorCore's references. -/
abbrev V1 : Bufs F := fun c b => W1 m ρ c b
/-- At call 0's exit: its arrays at what the call leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of the call's output arrays keeps its contents across it. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among the call's arrays is an input's. -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same, read at the TensorCore's references. -/
abbrev V2 : Bufs F := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At call 1's exit: its arrays at what the call leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of the call's output arrays keeps its contents across it. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among the call's arrays is an input's. -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same, read at the TensorCore's references. -/
abbrev V3 : Bufs F := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the stretch of host operations 2. -/
abbrev W4 : Dev nD → Valuation τ sig (Elt F) := fun c => StableHlo.after hostOps2 (W3 m ρ c)
/-- A reference the stretch does not write keeps its contents. -/
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
theorem W4_args (c : Dev nD) : ∀ a ∈ argRefs, W4 m ρ c (Proc.devRef .tc a) = m ((c : Thread nD τ).loc a) :=
  fun a ha => (W4_of m ρ c a (hostOps2_args a ha)).trans (W3_args m ρ c a ha)
/-- The same, read at the TensorCore's references. -/
abbrev V4 : Bufs F := fun c b => W4 m ρ c b
/-- At call 2's exit: its arrays at what the call leaves, every other buffer as entered. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
/-- A reference that is none of the call's output arrays keeps its contents across it. -/
theorem W5_of (c : Dev nD) (r : Ref sig .tc) (h : ∀ w : Fin cfg2.W, Pipeline.arrRef spec2 w = r → (cfg2.win w).isOut = false) :
    W5 m ρ c (Proc.devRef .tc r) = W4 m ρ c (Proc.devRef .tc r) := by
  by_cases hw : ∃ w : Fin cfg2.W, Pipeline.arrRef spec2 w = r
  · obtain ⟨w, rfl⟩ := hw
    exact (W5_arr m ρ c w).trans (((dat2 (V4 m ρ) c).arrAt_in w (h w rfl) _).trans (A_eq2 (V4 m ρ) c w))
  · exact W5_of_ne m ρ c r fun w e => hw ⟨w, e⟩
/-- Every argument among the call's arrays is an input's. -/
theorem argsIn2 : ∀ a ∈ argRefs, ∀ w : Fin cfg2.W, Pipeline.arrRef spec2 w = a → (cfg2.win w).isOut = false :=
  ListAll.forall_mem_of_all_decide (by decide +kernel)
theorem W5_args (c : Dev nD) : ∀ a ∈ argRefs, W5 m ρ c (Proc.devRef .tc a) = m ((c : Thread nD τ).loc a) :=
  fun a ha => (W5_of m ρ c a (argsIn2 a ha)).trans (W4_args m ρ c a ha)
/-- The same, read at the TensorCore's references. -/
abbrev V5 : Bufs F := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-- After the stretch of host operations 3. -/
abbrev W6 : Dev nD → Valuation τ sig (Elt F) := fun c => StableHlo.after hostOps3 (W5 m ρ c)
/-- A reference the stretch does not write keeps its contents. -/
theorem W6_of (c : Dev nD) (r : Ref sig .tc) (h : r ∉ hostOps3_W) : W6 m ρ c (Proc.devRef .tc r) = W5 m ρ c (Proc.devRef .tc r) :=
  StableHlo.after_of_writes_sub hostOps3 _ hostOps3_writes h
theorem W6_args (c : Dev nD) : ∀ a ∈ argRefs, W6 m ρ c (Proc.devRef .tc a) = m ((c : Thread nD τ).loc a) :=
  fun a ha => (W6_of m ρ c a (hostOps3_args a ha)).trans (W5_args m ρ c a ha)
/-- The same, read at the TensorCore's references. -/
abbrev V6 : Bufs F := fun c b => W6 m ρ c b
/-- The prefetched tables' admissible contents: no pipeline has a table. -/
abbrev adm : (p : Fin 3) → (pcfgs (F := F) p).Adm := fun p => (cfgs p).toPCfg_adm
/-- Every call's proof data, each at its entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers: the generator register, and nothing owed. -/
abbrev R (c : Dev nD) : sProp 𝕄 := iprop((∃ r, prngReg c r) ∗ ∃ W, owes (c : Thread nD τ) (0 : CellTallies nD τ sig Unit) W)
/-- A stretch of host operations as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every buffer of the device memory at the last boundary's contents, the generator register. -/
abbrev Tₙ (c : Dev nD) : sProp 𝕄 := iprop(StableHlo.held (c : Thread nD τ) (Pipeline.ucRefs τ sig) (W6 m ρ c) ∗ ∃ r, prngReg c r)

set_option backward.isDefEq.respectTransparency.types false in
/-- Call 0 as a segment: entered from every buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment: entered from every buffer at `W2`, left at `W3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 as a segment: entered from every buffer at `W4`, left at `W5`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) (A_eq2 (V4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .region (reg2 m ρ),
    .host (hseg hostOps3 hostOps3_sub hostOps3_fresh (W5 m ρ)) ]
/-- @main is the run of the segments. -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- Every final state of @main's run, from any memory with zero counters, holds every buffer of the device memory at the
    last boundary's contents and every counter at zero. -/
theorem run_all : θ_run defs (onTc (τ := τ) (main (F := F))) ⟨m, fun _ => 0, ρ⟩ (fun r => (∀ c : Dev nD,
      ∀ b ∈ Pipeline.ucRefs τ sig, r.2.mem (((c : Thread nD τ)).1, b) = W6 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨h, funext fun g => hz g (.inr (no_unscoped g.2))⟩)

end Cert.Kernel.Run

end
-- ==== Proof.RunIdeal.Smooth.lean ====
/- The first call of @main, the smoothing factors: what its body leaves at every grid point, as explicit contents.
   The call walks the 16 row blocks of the activations, keeps the running column maximum of their absolute values in a
   scratch row, and at the last point stores the factors. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp

@[expose] public section

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Core `c`'s TensorCore buffers as the region finds them. -/
abbrev Bufs (F : FTy → Type) : Type := (c : Dev nD) → (b : Ref sig .tc) → Buf (Elt F) ((c : Thread nD τ).loc b)

variable (V : Bufs F)

theorem hz2 : (![0, 0] : Fin 2 → Nat) = fun _ => 0 := funext fun a => by fin_cases a <;> rfl
theorem hz3 : (![0, 0, 0] : Fin 3 → Nat) = fun _ => 0 := funext fun a => by fin_cases a <;> rfl

/-- A store through the rectangle of the whole buffer, last of several, leaves its payload, whatever the buffer held. -/
theorem read_writes_full {Val : EltTy → Type} [∀ e, Nonempty (Val e)] {sp : Space} {S : Shape} {e : EltTy}
    (v : View sig .tc sp S e) (f : v.ty.Contents Val) {off : Fin S.rank → Nat} (hoff : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst hoff
  rw [View.read_writes_eq_canon _ _ _ (fun y => ⟨_, List.mem_cons_self, by
    rw [Rect.mem_set_unit]; intro a; exact ⟨Nat.zero_le _, by simpa using (y a).isLt⟩⟩)]
  exact View.canon_cons_unit_zero rfl inb w L

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's branch conditions -/

/-- The first conditional's condition, from the grid coordinates. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val = 0 :=
  (by decide +kernel : ∀ t : Fin grid0.N, cond0_0 (grid0.coords t) ↔ t.val = 0)
/-- The second conditional's condition. -/
abbrev cond0_1 (i : grid0.Coords) : Prop := (Scalar.cmpi .ne (Scalar.extui (Scalar.cmpi .sgt (BitVec.ofNat 32 (i 0).val) 0#32)) 0#32) = 1#1
/-- It holds from the second point on. -/
theorem hcond0_1 : ∀ t : Fin cfg0.N, cond0_1 (grid0.coords t) ↔ t.val ≠ 0 :=
  (by decide +kernel : ∀ t : Fin grid0.N, cond0_1 (grid0.coords t) ↔ t.val ≠ 0)
/-- The third conditional's condition. -/
abbrev cond0_2 (i : grid0.Coords) : Prop := k0_cond3 i = 1#1
/-- It holds at the last point only. -/
theorem hcond0_2 : ∀ t : Fin cfg0.N, cond0_2 (grid0.coords t) ↔ t.val = 15 :=
  (by decide +kernel : ∀ t : Fin grid0.N, cond0_2 (grid0.coords t) ↔ t.val = 15)

/-- The inputs are never idle. -/
theorem liveAt0_0 : ∀ t : Fin cfg0.N, cfg0.idle 0 (grid0.coords t) = false := fun _ => rfl
theorem liveAt0_1 : ∀ t : Fin cfg0.N, cfg0.idle 1 (grid0.coords t) = false := fun _ => rfl
/-- Before the last point the output is idle and not written back; at the last point it is live. -/
theorem idleAt0_2 : ∀ t : Fin cfg0.N, t.val ≠ 15 → cfg0.idle 2 (grid0.coords t) = true :=
  (by decide +kernel : ∀ t : Fin grid0.N, t.val ≠ 15 → cfg0.idle 2 (grid0.coords t) = true)
theorem noFlush0_2 : ∀ t : Fin cfg0.N, t.val ≠ 15 → (cfg0.win 2).flush t = false :=
  (by decide +kernel : ∀ t : Fin grid0.N, t.val ≠ 15 → win0_2.flush t = false)
theorem liveAt0_2 : ∀ t : Fin cfg0.N, t.val = 15 → cfg0.idle 2 (grid0.coords t) = false :=
  (by decide +kernel : ∀ t : Fin grid0.N, t.val = 15 → cfg0.idle 2 (grid0.coords t) = false)

/-! ## The body on any staging memrefs -/

/-- Each window's current staging memref at point `t`, and its wholeness. -/
abbrev ms0_0 (t : Fin cfg0.N) : Memref sig .tc .vmem S512x7168 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x7168 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x7168 .f32 := win0_2.stage (cfg0.slots t 2)
abbrev hs0_2 (t : Fin cfg0.N) : (ms0_2 t).IsWhole := hstage0_2 ((cfg0.slots t 2).cast nbuf0_2)
/-- The scratch row the call carries between points. -/
abbrev scM0_0 : Memref sig .tc .vmem S1x7168 .bf16 := Memref.whole cc0_scratch0

/-- The other scoped buffers of the core (the other calls' staging buffers and scratch), at any contents. -/
abbrev Rest0 (c : Dev nD) : sProp 𝕄 :=
  Pipeline.scopedRestBut (Ix := Unit) (Name := ℕ) (U := UR sig nD τ) (Lvl := ℕ) (Val := Elt F) spec0 c [cc0_scratch0]

/-- The launch's invariant of the region: the scratch row at some contents, the rest, the generator register. -/
theorem PhiA0_eq (c : Dev nD) :
    (Pipeline.ΦA spec0 c : sProp 𝕄)
      = iprop(iprop((∃ d, owns (c : Thread nD τ) scM0_0 fullShare d) ∗ Rest0 c) ∗ (∃ r, prngReg c r)) := by
  unfold Pipeline.ΦA; rw [scopedRest0_split]; simp only [scM0_0, owns_whole]; try rfl

set_option maxHeartbeats 1000000 in
/-- The first point: the scratch row ends holding the block's column maximum; the output is untouched. -/
theorem run0_A (c : Dev nD) (i : grid0.Coords)
  (arg1 : Memref sig .tc .vmem S512x7168 .bf16) (harg1 : arg1.IsWhole) (arg2 : Memref sig .tc .vmem S1x7168 .f32) (harg2 : arg2.IsWhole)
  (arg3 : Memref sig .tc .vmem S1x7168 .f32) (harg3 : arg3.IsWhole) (arg4 : Memref sig .tc .vmem S1x7168 .bf16) (harg4 : arg4.IsWhole)
  (x0 : Vec F S512x7168 .bf16) (x1 xi2 : Vec F S1x7168 .f32) (E : Set ℕ) (K : PUnit.{1} → sProp 𝕄)
  (hc0 : cond0_0 i) (hc1 : ¬cond0_1 i) (hc2 : ¬cond0_2 i) :
    iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ owns (c : Thread nD τ) arg4 fullShare (k0_pay2 x0)) -∗ K ⟨⟩))
          ⊢ wp frame (wpE (defs₀ (F := F)) Variants.none c none) E (cc0_smooth i arg1 harg1 arg2 harg2 arg3 harg3 arg4 harg4) K := by
    simp only [cc0_smooth_eq_skeleton]; unfold cc0_smooth_skel
    unfold owns
    iintro ⟨⟨%f0, %hf0, H0⟩, ⟨%f1, %hf1, H1⟩, ⟨%f2, %hf2, H2⟩, ⟨%ds0, %fs0, %hfs0, HS0⟩, Hk⟩
    obtain rfl := harg1.eq_unread hf0; obtain rfl := harg2.eq_unread hf1; obtain rfl := harg3.eq_unread hf2
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; isplitr
    swap; · iexact HS0
    ipureintro
    rw [read_writes_full _ _ hz2]
    simp only [View.readAt_eq_ld, harg1.read_unread, View.ld_unit_zero (S := S512x7168) hz2]

set_option maxHeartbeats 1000000 in
/-- A point that is neither the first nor the last: the block's column maximum joins the scratch row. -/
theorem run0_B (c : Dev nD) (i : grid0.Coords)
  (arg1 : Memref sig .tc .vmem S512x7168 .bf16) (harg1 : arg1.IsWhole) (arg2 : Memref sig .tc .vmem S1x7168 .f32) (harg2 : arg2.IsWhole)
  (arg3 : Memref sig .tc .vmem S1x7168 .f32) (harg3 : arg3.IsWhole) (arg4 : Memref sig .tc .vmem S1x7168 .bf16) (harg4 : arg4.IsWhole)
  (x0 : Vec F S512x7168 .bf16) (x1 xi2 : Vec F S1x7168 .f32) (xs0 : Vec F S1x7168 .bf16) (E : Set ℕ) (K : PUnit.{1} → sProp 𝕄)
  (hc0 : ¬cond0_0 i) (hc1 : cond0_1 i) (hc2 : ¬cond0_2 i) :
    iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ owns (c : Thread nD τ) arg4 fullShare (k0_pay3 x0 xs0)) -∗ K ⟨⟩))
          ⊢ wp frame (wpE (defs₀ (F := F)) Variants.none c none) E (cc0_smooth i arg1 harg1 arg2 harg2 arg3 harg3 arg4 harg4) K := by
    simp only [cc0_smooth_eq_skeleton]; unfold cc0_smooth_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; isplitr
    swap; · iexact HS0
    ipureintro
    rw [read_writes_full _ _ hz2]
    simp only [View.readAt_eq_ld, harg1.read_unread, harg4.read_unread, View.ld_unit_zero (S := S512x7168) hz2, View.ld_unit_zero (S := S1x7168) hz2]

set_option maxHeartbeats 1000000 in
/-- The last point: the block's column maximum joins the scratch row, and the factors made from it are stored. -/
theorem run0_C (c : Dev nD) (i : grid0.Coords)
  (arg1 : Memref sig .tc .vmem S512x7168 .bf16) (harg1 : arg1.IsWhole) (arg2 : Memref sig .tc .vmem S1x7168 .f32) (harg2 : arg2.IsWhole)
  (arg3 : Memref sig .tc .vmem S1x7168 .f32) (harg3 : arg3.IsWhole) (arg4 : Memref sig .tc .vmem S1x7168 .bf16) (harg4 : arg4.IsWhole)
  (x0 : Vec F S512x7168 .bf16) (x1 : Vec F S1x7168 .f32) (xs0 : Vec F S1x7168 .bf16) (E : Set ℕ) (K : PUnit.{1} → sProp 𝕄)
  (hc0 : ¬cond0_0 i) (hc1 : cond0_1 i) (hc2 : cond0_2 i) :
    iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ owns (c : Thread nD τ) arg3 fullShare (k0_pay4 (k0_pay3 x0 xs0) x1) ∗ owns (c : Thread nD τ) arg4 fullShare (k0_pay3 x0 xs0)) -∗ K ⟨⟩))
          ⊢ wp frame (wpE (defs₀ (F := F)) Variants.none c none) E (cc0_smooth i arg1 harg1 arg2 harg2 arg3 harg3 arg4 harg4) K := by
    simp only [cc0_smooth_eq_skeleton]; unfold cc0_smooth_skel
    unfold owns
    iintro ⟨⟨%f0, %hf0, H0⟩, ⟨%f1, %hf1, H1⟩, ⟨%d2, %f2, %hf2, H2⟩, ⟨%fs0, %hfs0, HS0⟩, Hk⟩
    obtain rfl := harg1.eq_unread hf0; obtain rfl := harg2.eq_unread hf1; obtain rfl := harg4.eq_unread hfs0
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr
      swap; · iexact H2
      ipureintro
      rw [read_writes_full _ _ hz2]
      sl_unfold_words
      simp only [View.readAt_eq_ld, View.readCov_unit_zero (S := S1x7168) _ hz2, harg1.read_unread, harg2.read_unread, harg4.read_unread, View.ld_unit_zero (S := S512x7168) hz2, View.ld_unit_zero (S := S1x7168) hz2]
    iexists _; isplitr
    swap; · iexact HS0
    ipureintro
    sl_unfold_words
    rw [read_writes_full _ _ hz2]
    simp only [View.readAt_eq_ld, harg1.read_unread, harg4.read_unread, View.ld_unit_zero (S := S512x7168) hz2, View.ld_unit_zero (S := S1x7168) hz2]

/-! ## What the scratch row holds after each point -/

/-- THE RUNNING MAXIMUM: what the scratch row holds after the body at point `n`. -/
def acc0 (c : Dev nD) : (n : ℕ) → n < cfg0.N → Vec F S1x7168 .bf16
  | 0, hn => k0_pay2 (iblk0 V c 0 ⟨0, hn⟩)
  | n + 1, hn => k0_pay3 (iblk0 V c 0 ⟨n + 1, hn⟩) (acc0 c n (Nat.lt_of_succ_lt hn))

theorem acc0_zero (c : Dev nD) (t : Fin cfg0.N) (h : t.val = 0) : acc0 V c t.val t.isLt = k0_pay2 (iblk0 V c 0 t) := by
  obtain ⟨n, hn⟩ := t; dsimp only at h; subst h; rfl

theorem acc0_pos (c : Dev nD) (t : Fin cfg0.N) (h : t.val ≠ 0) :
    acc0 V c t.val t.isLt = k0_pay3 (iblk0 V c 0 t) (acc0 V c (t.val - 1) (Nat.lt_of_le_of_lt (Nat.sub_le _ _) t.isLt)) := by
  obtain ⟨n, hn⟩ := t
  cases n with
  | zero => exact absurd rfl h
  | succ n => rfl

/-- The region invariant before position `n`: at the first point the launch's, afterwards the scratch row at the running maximum. -/
def PhiS (c : Dev nD) : (n : ℕ) → n ≤ cfg0.N → sProp 𝕄
  | 0, _ => Pipeline.ΦA spec0 c
  | n + 1, hn => iprop(iprop(owns (c : Thread nD τ) scM0_0 fullShare (acc0 V c n hn) ∗ Rest0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare (acc0 V c n hn) ∗ Rest0 c) ∗ (∃ r, prngReg c r)) := rfl

theorem PhiS_pos (c : Dev nD) (n : ℕ) (h : n ≤ cfg0.N) (hz : n ≠ 0) :
    PhiS V c n h = iprop(iprop(owns (c : Thread nD τ) scM0_0 fullShare (acc0 V c (n - 1) (by omega)) ∗ Rest0 c) ∗ (∃ r, prngReg c r)) := by
  cases n with
  | zero => exact absurd rfl hz
  | succ n => rfl

/-! ## The pipeline's proof data -/

/-- The proof data of the region: the arrays as the region finds them; after the body at point `t` each input's buffer at
    its block and the output's at the factors made from the running maximum; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay4 (acc0 V c t.val t.isLt) (iblk0 V c 1 t)
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; exact Pipeline.Dat.Φ_castSucc (PhiS V c) t

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay4 (acc0 V c t.val t.isLt) (iblk0 V c 1 t) := by dsimp only [dat0]

/-- Each input's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the first, the last, or one between. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
      unfold Dat.leavesExact; rw [liveAt0_0 t], after0_0]
  rw [show (dat0 V c).leavesExact 1 t = owns (c : Thread nD τ) (ms0_1 t) fullShare ((dat0 V c).after 1 t) from by
      unfold Dat.leavesExact; rw [liveAt0_1 t], after0_1]
  by_cases h0 : t.val = 0
  · have h2 : t.val ≠ 15 := by omega
    rw [Dat.leavesExact_idle (dat0 V c) 2 t (idleAt0_2 t h2) (noFlush0_2 t h2)]
    rw [PhiS_castSucc V c t, PhiS_zero V c _ _ h0, PhiA0_eq, acc0_zero V c t h0]
    iintro ⟨⟨⟨HS0, HR⟩, Hg⟩, Ho, ⟨%d0, H0⟩, ⟨%d1, H1⟩, ⟨%d2, H2⟩⟩
    iapply (run0_A c (grid0.coords t) _ _ _ _ _ _ _ _ (iblk0 V c 0 t) (iblk0 V c 1 t) _ Set.univ _ ((hcond0_0 t).mpr h0) (fun h => (hcond0_1 t).mp h h0) (fun h => h2 ((hcond0_2 t).mp h)))
    isplitl [H0]; · iexact H0
    isplitl [H1]; · iexact H1
    isplitl [H2]; · iexact H2
    isplitl [HS0]; · iexact HS0
    iintro ⟨H0, H1, H2, HS0⟩
    isplitl [HS0 HR Hg]
    · isplitl [HS0 HR]
      · isplitl [HS0]; · iexact HS0
        iexact HR
      iexact Hg
    isplitl [Ho]; · iexact Ho
    isplitl [H0]; · iexact H0
    isplitl [H1]; · iexact H1
    iexists _; iexact H2
  · rw [PhiS_castSucc V c t, PhiS_pos V c _ _ h0]
    by_cases h2 : t.val = 15
    · rw [show (dat0 V c).leavesExact 2 t = owns (c : Thread nD τ) (ms0_2 t) fullShare ((dat0 V c).after 2 t) from by
        unfold Dat.leavesExact; rw [liveAt0_2 t h2], after0_2]
      rw [acc0_pos V c t h0]
      iintro ⟨⟨⟨HS0, HR⟩, Hg⟩, Ho, ⟨%d0, H0⟩, ⟨%d1, H1⟩, ⟨%d2, H2⟩⟩
      iapply (run0_C c (grid0.coords t) _ _ _ _ _ _ _ _ (iblk0 V c 0 t) (iblk0 V c 1 t) _ Set.univ _ (fun h => h0 ((hcond0_0 t).mp h)) ((hcond0_1 t).mpr h0) ((hcond0_2 t).mpr h2))
      isplitl [H0]; · iexact H0
      isplitl [H1]; · iexact H1
      isplitl [H2]; · iexists _; iexact H2
      isplitl [HS0]; · iexact HS0
      iintro ⟨H0, H1, H2, HS0⟩
      isplitl [HS0 HR Hg]
      · isplitl [HS0 HR]
        · isplitl [HS0]; · iexact HS0
          iexact HR
        iexact Hg
      isplitl [Ho]; · iexact Ho
      isplitl [H0]; · iexact H0
      isplitl [H1]; · iexact H1
      iexact H2
    · rw [Dat.leavesExact_idle (dat0 V c) 2 t (idleAt0_2 t h2) (noFlush0_2 t h2)]
      rw [acc0_pos V c t h0]
      iintro ⟨⟨⟨HS0, HR⟩, Hg⟩, Ho, ⟨%d0, H0⟩, ⟨%d1, H1⟩, ⟨%d2, H2⟩⟩
      iapply (run0_B c (grid0.coords t) _ _ _ _ _ _ _ _ (iblk0 V c 0 t) (iblk0 V c 1 t) _ _ Set.univ _ (fun h => h0 ((hcond0_0 t).mp h)) ((hcond0_1 t).mpr h0) (fun h => h2 ((hcond0_2 t).mp h)))
      isplitl [H0]; · iexact H0
      isplitl [H1]; · iexact H1
      isplitl [H2]; · iexact H2
      isplitl [HS0]; · iexact HS0
      iintro ⟨H0, H1, H2, HS0⟩
      isplitl [HS0 HR Hg]
      · isplitl [HS0 HR]
        · isplitl [HS0]; · iexact HS0
          iexact HR
        iexact Hg
      isplitl [Ho]; · iexact Ho
      isplitl [H0]; · iexact H0
      isplitl [H1]; · iexact H1
      iexists _; iexact H2

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the launch's back. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 16 := N_0; omega), PhiA0_eq]
  iintro ⟨⟨HS0, HR⟩, Hg⟩
  isplitl [HS0 HR]
  · isplitl [HS0]
    · iexists _; iexact HS0
    iexact HR
  iexact Hg

end Cert.KernelIdeal.Run

end
-- ==== Proof.RunIdeal.Weight.lean ====
/- The second call of @main, the weight: its body leaves, at every grid point, the codes, the same codes as bfloat16 and
   the scales of one block of 192 weight columns, as explicit contents of the blocks it reads. -/
module

public import proofs.«01_k».proof.Proof.RunIdeal.Smooth

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Bufs F)

/-! # REGION 1 of @main: custom_call 1, `cc1_weight` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S192x7168 := Rect.unit (s := S192x7168) ![0, 0] S192x7168.size inb_S192x7168_S192x7168_0_0
abbrev r1_1 : Rect S1x7168 := Rect.unit (s := S1x7168) ![0, 0] S1x7168.size inb_S1x7168_S1x7168_0_0
abbrev r1_2 : Rect S192x1 := Rect.unit (s := S192x1) ![0, 0] S192x1.size inb_S192x1_S192x1_0_0

/-! ## What the body leaves in each output window's buffer -/

/-- Window 2's staging buffer after the body, from the input windows' blocks: its 1 store as pieces, LAST
    FIRST (Lib/Pipeline/FrameBody.lean `View.canon`; the payloads are the skeleton's). -/
def out1_2 (x0 : Vec F S192x7168 .bf16) (x1 : Vec F S1x7168 .f32) : Vec F S192x7168 .i8 :=
  View.canon [⟨r1_0, k1_pay4 (View.ld x0 r1_0) (View.ld x1 r1_1)⟩]

/-- Its stores tile the buffer (checked by evaluation), so they cover it. -/
theorem cover1_2 (p0 : Vec F S192x7168 .i8) (y : S192x7168.Idx) :
    ∃ pc ∈ ([⟨r1_0, p0⟩] : List (View.Piece (Elt F) S192x7168 .i8)), y ∈ pc.1.set :=
  View.cover_of_tiled [⟨r1_0, p0⟩] S192x7168.size (by rfl) y

/-- Window 3's staging buffer after the body, from the input windows' blocks: its 1 store as pieces, LAST
    FIRST (Lib/Pipeline/FrameBody.lean `View.canon`; the payloads are the skeleton's). -/
def out1_3 (x0 : Vec F S192x7168 .bf16) (x1 : Vec F S1x7168 .f32) : Vec F S192x7168 .bf16 :=
  View.canon [⟨r1_0, k1_pay5 (View.ld x0 r1_0) (View.ld x1 r1_1)⟩]

/-- Its stores tile the buffer (checked by evaluation), so they cover it. -/
theorem cover1_3 (p0 : Vec F S192x7168 .bf16) (y : S192x7168.Idx) :
    ∃ pc ∈ ([⟨r1_0, p0⟩] : List (View.Piece (Elt F) S192x7168 .bf16)), y ∈ pc.1.set :=
  View.cover_of_tiled [⟨r1_0, p0⟩] S192x7168.size (by rfl) y

/-- Window 4's staging buffer after the body, from the input windows' blocks: its 1 store as pieces, LAST
    FIRST (Lib/Pipeline/FrameBody.lean `View.canon`; the payloads are the skeleton's). -/
def out1_4 (x0 : Vec F S192x7168 .bf16) (x1 : Vec F S1x7168 .f32) : Vec F S192x1 .f32 :=
  View.canon [⟨r1_2, k1_pay2 (View.ld x0 r1_0) (View.ld x1 r1_1)⟩]

/-- Its stores tile the buffer (checked by evaluation), so they cover it. -/
theorem cover1_4 (p0 : Vec F S192x1 .f32) (y : S192x1.Idx) :
    ∃ pc ∈ ([⟨r1_2, p0⟩] : List (View.Piece (Elt F) S192x1 .f32)), y ∈ pc.1.set :=
  View.cover_of_tiled [⟨r1_2, p0⟩] S192x1.size (by rfl) y

/-! ## The body's triple -/

set_option maxHeartbeats 1000000 in
/-- The kernel body on whole staging memrefs, the inputs' at read contents `xW` and the outputs' at anything, runs to
    the continuation holding the inputs' as they were and each output's at `out1_W` of the inputs': the printed functions
    are their skeletons (`Gen.*_eq_skeleton`), which `sl_exec` runs (Lib/Exec.lean), through every part call. -/
theorem sound_kernel1 (c : Dev nD) (E : Set ℕ) (i : grid1.Coords) (arg1 : Memref sig .tc .vmem S192x7168 .bf16) (harg1 : arg1.IsWhole) (arg2 : Memref sig .tc .vmem S1x7168 .f32) (harg2 : arg2.IsWhole) (arg3 : Memref sig .tc .vmem S192x7168 .i8) (harg3 : arg3.IsWhole) (arg4 : Memref sig .tc .vmem S192x7168 .bf16) (harg4 : arg4.IsWhole) (arg5 : Memref sig .tc .vmem S192x1 .f32) (harg5 : arg5.IsWhole)
    (x0 : Vec F S192x7168 .bf16) (x1 : Vec F S1x7168 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare (out1_2 x0 x1) ∗ owns (c : Thread nD τ) arg4 fullShare (out1_3 x0 x1) ∗ owns (c : Thread nD τ) arg5 fullShare (out1_4 x0 x1)) -∗ K ⟨⟩))
      ⊢ wp frame (wpE (defs₀ (F := F)) Variants.none c none) E (cc1_weight i arg1 harg1 arg2 harg2 arg3 harg3 arg4 harg4 arg5 harg5) K := by
  simp only [cc1_weight_eq_skeleton]; unfold cc1_weight_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover1_2 _)
  isplitl [H3]
  · iexists _; isplitr
    swap; · iexact H3
    ipureintro
    exact View.read_writes_eq_canon _ _ _ (cover1_3 _)
  iexists _; isplitr
  swap; · iexact H4
  ipureintro
  exact View.read_writes_eq_canon _ _ _ (cover1_4 _)

/-! ## The pipeline's proof data -/

/-- The proof data of pipeline 1 on core `c`: the arrays as the region finds them (`V`); after the body at
    point `t` each input's buffer at its block and each output's at `out1_W` of the input blocks; the invariant the
    class's (Lib/Pipeline/Frame.lean `ΦA`: the scoped rest and the generator register, untouched); nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
    | ⟨3, _⟩ => out1_3 (iblk1 V c 0 t) (iblk1 V c 1 t)
    | ⟨4, _⟩ => out1_4 (iblk1 V c 0 t) (iblk1 V c 1 t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`, never `rfl`: Lib/Pipeline.lean `Dat`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]
theorem after1_3 (c : Dev nD) (t : Fin cfg1.N) : (dat1 V c).after 3 t = out1_3 (iblk1 V c 0 t) (iblk1 V c 1 t) := by dsimp only [dat1]
theorem after1_4 (c : Dev nD) (t : Fin cfg1.N) : (dat1 V c).after 4 t = out1_4 (iblk1 V c 0 t) (iblk1 V c 1 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- The codes' block after the body. -/
theorem out1_2_eq (x0 : Vec F S192x7168 .bf16) (x1 : Vec F S1x7168 .f32) : out1_2 x0 x1 = k1_pay4 x0 x1 := by
  unfold out1_2
  rw [View.canon_cons_unit_zero hz2, View.ld_unit_zero (S := S192x7168) hz2, View.ld_unit_zero (S := S1x7168) hz2]
/-- The bfloat16 codes' block after the body. -/
theorem out1_3_eq (x0 : Vec F S192x7168 .bf16) (x1 : Vec F S1x7168 .f32) : out1_3 x0 x1 = k1_pay5 x0 x1 := by
  unfold out1_3
  rw [View.canon_cons_unit_zero hz2, View.ld_unit_zero (S := S192x7168) hz2, View.ld_unit_zero (S := S1x7168) hz2]
/-- The scales' block after the body. -/
theorem out1_4_eq (x0 : Vec F S192x7168 .bf16) (x1 : Vec F S1x7168 .f32) : out1_4 x0 x1 = k1_pay2 x0 x1 := by
  unfold out1_4
  rw [View.canon_cons_unit_zero hz2, View.ld_unit_zero (S := S192x7168) hz2, View.ld_unit_zero (S := S1x7168) hz2]

end Cert.KernelIdeal.Run

end
-- ==== Proof.RunIdeal.Tiles.lean ====
/- Buffers filled block after block along one axis: what such a buffer holds once the blocks cover it. -/
module

public import proofs.«01_k».proof.Proof.RunIdeal.Weight
public import Idealize.ShloMosaic.Lib.Pipeline.ValueKit.Tiles

@[expose] public section

noncomputable section

namespace Cert.KernelIdeal.Run

open Idealize.ShloMosaic Idealize.ShloMosaic.TcCoe
open Idealize.SL Idealize.SL.Sem

/-- The values of the indices before `k`, the last first. -/
def before {α : Type} {N : Nat} (f : Fin N → α) : Nat → List α
  | 0 => []
  | k + 1 => if h : k < N then f ⟨k, h⟩ :: before f k else before f k

theorem before_succ {α : Type} {N : Nat} (f : Fin N → α) (k : Fin N) : before f (k.val + 1) = f k :: before f k.val := by
  rw [before, dif_pos k.isLt]

theorem mem_before {α : Type} {N : Nat} (f : Fin N → α) (p : α) : ∀ k, p ∈ before f k → ∃ i : Fin N, f i = p
  | 0, h => by simp [before] at h
  | k + 1, h => by
    rw [before] at h
    split at h
    · rcases List.mem_cons.mp h with rfl | h
      · exact ⟨_, rfl⟩
      · exact mem_before f p k h
    · exact mem_before f p k h

theorem before_mem {α : Type} {N : Nat} (f : Fin N → α) (i : Fin N) : ∀ k, i.val < k → f i ∈ before f k
  | 0, h => by omega
  | k + 1, h => by
    rw [before]
    split
    · by_cases hk : i.val = k
      · exact List.mem_cons.mpr (.inl (congrArg f (Fin.ext hk)))
      · exact List.mem_cons_of_mem _ (before_mem f i k (by omega))
    · have := i.isLt
      exact before_mem f i k (by omega)

/-- The rectangle of block `k` of `N` blocks of `n` along axis `a`: whole on every other axis. -/
structure Blocks (S : Shape) (N : Nat) (off : Fin N → Fin S.rank → Nat) (size : Fin S.rank → Nat) (a : Fin S.rank) (n : Nat) : Prop where
  offa : ∀ k, off k a = n * k.val
  offb : ∀ k b, b ≠ a → off k b = 0
  sizea : size a = n
  sizeb : ∀ b, b ≠ a → size b = S.size b
  whole : S.size a = n * N

variable {Val : EltTy → Type} [∀ e, Nonempty (Val e)] {S : Shape} {e : EltTy} {N : Nat} {off : Fin N → Fin S.rank → Nat}
  {size : Fin S.rank → Nat} {a : Fin S.rank} {n : Nat}

/-- Different blocks do not meet. -/
theorem Blocks.disjoint (hB : Blocks S N off size a n) (inb : ∀ k b, off k b + size b ≤ S.size b) (k k' : Fin N) (hk : k ≠ k') :
    Disjoint (Rect.unit (off k) size (inb k)).set (Rect.unit (off k') size (inb k')).set := by
  rw [Finset.disjoint_left]
  intro y h h'
  have h1 := (Rect.mem_set_unit.mp h) a
  have h2 := (Rect.mem_set_unit.mp h') a
  rw [hB.offa, hB.sizea] at h1 h2
  have : k.val = k'.val := by
    rcases Nat.lt_trichotomy k.val k'.val with h | h | h
    · have : n * (k.val + 1) ≤ n * k'.val := Nat.mul_le_mul_left _ h
      rw [Nat.mul_add] at this; omega
    · exact h
    · have : n * (k'.val + 1) ≤ n * k.val := Nat.mul_le_mul_left _ h
      rw [Nat.mul_add] at this; omega
  exact hk (Fin.ext this)

/-- Every index lies in a block. -/
theorem Blocks.cover (hB : Blocks S N off size a n) (inb : ∀ k b, off k b + size b ≤ S.size b) (y : S.Idx) :
    ∃ k, y ∈ (Rect.unit (off k) size (inb k)).set := by
  have hy : (y a).val < n * N := lt_of_lt_of_eq (y a).isLt hB.whole
  have hn : 0 < n := Nat.pos_of_ne_zero fun h => by rw [h, Nat.zero_mul] at hy; omega
  refine ⟨⟨(y a).val / n, Nat.div_lt_of_lt_mul hy⟩, Rect.mem_set_unit.mpr fun b => ?_⟩
  by_cases hb : b = a
  · subst hb
    rw [hB.offa, hB.sizea]
    exact ⟨Nat.mul_div_le _ _, by have := Nat.lt_mul_div_succ (y b).val hn; rw [Nat.mul_add] at this; simpa using this⟩
  · rw [hB.offb _ b hb, hB.sizeb b hb]
    exact ⟨Nat.zero_le _, by simpa using (y b).isLt⟩

/-- The contents a buffer has once every block `k` holds `P k`. -/
def filled (inb : ∀ k b, off k b + size b ≤ S.size b) (P : (k : Fin N) → (Rect.unit (off k) size (inb k)).shape.Idx → Val e) : S.Idx → Val e :=
  View.canon (List.ofFn fun k => (⟨Rect.unit (off k) size (inb k), P k⟩ : View.Piece Val S e))

/-- Under block `k` they are `P k`. -/
theorem filled_emb (hB : Blocks S N off size a n) (inb : ∀ k b, off k b + size b ≤ S.size b)
    (P : (k : Fin N) → (Rect.unit (off k) size (inb k)).shape.Idx → Val e) (k : Fin N) (x) :
    filled inb P ((Rect.unit (off k) size (inb k)).emb x) = P k x :=
  View.canon_ofFn_emb_of_disjoint (fun k => Rect.unit (off k) size (inb k)) P (fun k k' h => hB.disjoint inb k k' h) k x

/-- A buffer all of whose blocks are written, one after the other, reads those contents, whatever it held. -/
theorem read_before (hB : Blocks S N off size a n) (inb : ∀ k b, off k b + size b ≤ S.size b)
    (P : (k : Fin N) → (Rect.unit (off k) size (inb k)).shape.Idx → Val e)
    {sig : RefSig} {κ : Kind} {sp : Space} (v : View sig κ sp S e) (f : v.ty.Contents Val) :
    v.read Val (v.writes Val f (before (fun k => (⟨Rect.unit (off k) size (inb k), P k⟩ : View.Piece Val S e)) N)) = filled inb P := by
  funext y
  refine View.read_writes_apply_of_pieces v f (filled inb P) _ ?_ y ?_
  · intro p hp x
    obtain ⟨k, rfl⟩ := mem_before _ _ _ hp
    exact (filled_emb hB inb P k x).symm
  · obtain ⟨k, hk⟩ := hB.cover inb y
    exact ⟨_, before_mem _ k _ k.isLt, hk⟩

/-- Block `k` of those contents is `P k`. -/
theorem ld_filled (hB : Blocks S N off size a n) (inb : ∀ k b, off k b + size b ≤ S.size b)
    (P : (k : Fin N) → (Rect.unit (off k) size (inb k)).shape.Idx → Val e) (k : Fin N) :
    View.ld (filled inb P) (Rect.unit (off k) size (inb k)) = P k :=
  funext fun x => filled_emb hB inb P k x

end Cert.KernelIdeal.Run

end
-- ==== Proof.RunIdeal.Loops.lean ====
/- The third call of @main, the linear layer: what its three counted loops leave, as explicit contents. The first
   quantises the 256 rows of a block in eight trips of 32; the second forms the layer's outputs in six trips of 352
   output columns, keeping the largest absolute value per row; the third quantises them in six trips. -/
module

public import proofs.«01_k».proof.Proof.RunIdeal.Tiles
public import proofs.«01_k».proof.Proof.Gen.KernelIdeal.Loops

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The blocks of the loops -/

theorem trips1 : k2_t1_loop.trips = 8 := by decide
theorem trips2 : k2_t2_loop.trips = 6 := by decide
theorem trips3 : k2_t3_loop.trips = 6 := by decide

/-- Trip `k` of the first loop takes rows `32 k` to `32 k + 31`. -/
abbrev R1 (k : Fin k2_t1_loop.trips) : Rect S256x7168 := Rect.unit (s := S256x7168) (k2_off1 k) S32x7168.size (k2_off1_inb k)
abbrev R2 (k : Fin k2_t1_loop.trips) : Rect S256x128 := Rect.unit (s := S256x128) (k2_off2 k) S32x128.size (k2_off2_inb k)
/-- Trip `k` of the second and third loops takes output columns `352 k` to `352 k + 351`. -/
abbrev R3 (k : Fin k2_t2_loop.trips) : Rect S2112x7168 := Rect.unit (s := S2112x7168) (k2_off3 k) S352x7168.size (k2_off3_inb k)
abbrev R4 (k : Fin k2_t2_loop.trips) : Rect S2112x1 := Rect.unit (s := S2112x1) (k2_off4 k) S352x1.size (k2_off4_inb k)
abbrev R5 (k : Fin k2_t2_loop.trips) : Rect S2112x256 := Rect.unit (s := S2112x256) (k2_off5 k) S352x256.size (k2_off5_inb k)
abbrev R6 (k : Fin k2_t3_loop.trips) : Rect S2112x256 := Rect.unit (s := S2112x256) (k2_off6 k) S352x256.size (k2_off6_inb k)
abbrev R7 (k : Fin k2_t3_loop.trips) : Rect S1x2112x256 := Rect.unit (s := S1x2112x256) (k2_off7 k) S1x352x256.size (k2_off7_inb k)

theorem blocks1 : Blocks S256x7168 k2_t1_loop.trips k2_off1 S32x7168.size 0 32 := ⟨by decide +kernel, by decide +kernel, by decide, by decide, by decide⟩
theorem blocks2 : Blocks S256x128 k2_t1_loop.trips k2_off2 S32x128.size 0 32 := ⟨by decide +kernel, by decide +kernel, by decide, by decide, by decide⟩
theorem blocks3 : Blocks S2112x7168 k2_t2_loop.trips k2_off3 S352x7168.size 0 352 := ⟨by decide +kernel, by decide +kernel, by decide, by decide, by decide⟩
theorem blocks4 : Blocks S2112x1 k2_t2_loop.trips k2_off4 S352x1.size 0 352 := ⟨by decide +kernel, by decide +kernel, by decide, by decide, by decide⟩
theorem blocks5 : Blocks S2112x256 k2_t2_loop.trips k2_off5 S352x256.size 0 352 := ⟨by decide +kernel, by decide +kernel, by decide, by decide, by decide⟩
theorem blocks6 : Blocks S2112x256 k2_t3_loop.trips k2_off6 S352x256.size 0 352 := ⟨by decide +kernel, by decide +kernel, by decide, by decide, by decide⟩
theorem blocks7 : Blocks S1x2112x256 k2_t3_loop.trips k2_off7 S1x352x256.size 1 352 := ⟨by decide +kernel, by decide +kernel, by decide, by decide, by decide⟩

/-! ## What the loops leave -/

/-- The codes of the block's rows, from the rows `x0` and the factors `x1`. -/
def xcodes (x0 : Vec F S256x7168 .bf16) (x1 : Vec F S1x7168 .f32) : Vec F S256x7168 .i8 :=
  filled k2_off1_inb fun k => k2_pay4 (View.ld x0 (R1 k)) x1
/-- The same codes as bfloat16. -/
def xquant (x0 : Vec F S256x7168 .bf16) (x1 : Vec F S1x7168 .f32) : Vec F S256x7168 .bf16 :=
  filled k2_off1_inb fun k => k2_pay5 (View.ld x0 (R1 k)) x1
/-- The rows' scales, each on 128 lanes. -/
def xscale (x0 : Vec F S256x7168 .bf16) (x1 : Vec F S1x7168 .f32) : Vec F S256x128 .f32 :=
  filled k2_off2_inb fun k => k2_pay6 (View.ld x0 (R1 k)) x1
/-- The layer's outputs, transposed, from the scales `v1`, the quantised rows `q`, the weight codes `x2`, the weight
    scales `x3` and the bias `x4`. -/
def zout (v1 : Vec F S256x128 .f32) (q : Vec F S256x7168 .bf16) (x2 : Vec F S2112x7168 .bf16) (x3 x4 : Vec F S2112x1 .f32) : Vec F S2112x256 .f32 :=
  filled k2_off5_inb fun k => k2_pay11 v1 (View.ld x2 (R3 k)) q (View.ld x3 (R4 k)) (View.ld x4 (R4 k))
/-- The largest absolute value per row over the trips before `k`. -/
def zmax (v1 : Vec F S256x128 .f32) (q : Vec F S256x7168 .bf16) (x2 : Vec F S2112x7168 .bf16) (x3 x4 : Vec F S2112x1 .f32) : Nat → FVec F S1x256 .f32
  | 0 => k2_pay9
  | k + 1 => if h : k < k2_t2_loop.trips then
      k2_pay12 v1 (zmax v1 q x2 x3 x4 k) (View.ld x2 (R3 ⟨k, h⟩)) q (View.ld x3 (R4 ⟨k, h⟩)) (View.ld x4 (R4 ⟨k, h⟩))
    else zmax v1 q x2 x3 x4 k
theorem zmax_succ (v1 : Vec F S256x128 .f32) (q : Vec F S256x7168 .bf16) (x2 : Vec F S2112x7168 .bf16) (x3 x4 : Vec F S2112x1 .f32) (k : Fin k2_t2_loop.trips) :
    zmax v1 q x2 x3 x4 (k.val + 1) = k2_pay12 v1 (zmax v1 q x2 x3 x4 k.val) (View.ld x2 (R3 k)) q (View.ld x3 (R4 k)) (View.ld x4 (R4 k)) := by
  rw [zmax, dif_pos k.isLt]
/-- The output codes, from the rows' largest absolute values `v9` and the outputs `z`. -/
def zcodes (v9 : FVec F S1x256 .f32) (z : Vec F S2112x256 .f32) : Vec F S1x2112x256 .i8 :=
  filled k2_off7_inb fun k => k2_pay15 v9 (View.ld z (R6 k))

/-! ## The generated piece lists are those blocks -/

theorem tripL1_eq (𝒱 : Variants) (c : Dev nD) (bd : Option 𝒱.V) (i : grid2.Coords) (arg1 : Memref sig .tc .vmem S256x7168 .bf16) (harg1 : arg1.IsWhole) (arg2 : Memref sig .tc .vmem S1x7168 .f32) (harg2 : arg2.IsWhole) (arg3 : Memref sig .tc .vmem S2112x7168 .bf16) (harg3 : arg3.IsWhole) (arg4 : Memref sig .tc .vmem S2112x1 .f32) (harg4 : arg4.IsWhole) (arg5 : Memref sig .tc .vmem S2112x1 .f32) (harg5 : arg5.IsWhole) (arg6 : Memref sig .tc .vmem S1x2112x256 .i8) (harg6 : arg6.IsWhole) (arg7 : Memref sig .tc .vmem S1x1x256 .f32) (harg7 : arg7.IsWhole) (arg8 : Memref sig .tc .vmem S256x7168 .i8) (harg8 : arg8.IsWhole) (arg9 : Memref sig .tc .vmem S1x1x256 .f32) (harg9 : arg9.IsWhole) (arg10 : Memref sig .tc .vmem S256x7168 .bf16) (harg10 : arg10.IsWhole) (arg11 : Memref sig .tc .vmem S2112x256 .f32) (harg11 : arg11.IsWhole) (arg12 : Memref sig .tc .vmem S256x128 .f32) (harg12 : arg12.IsWhole) (X1 : BufTy.Contents (Elt F) arg1.view.ty) (X2 : BufTy.Contents (Elt F) arg2.view.ty) (k : Fin k2_t1_loop.trips) :
    tripL_k2_t1 (F := F) 𝒱 c bd i arg1 harg1 arg2 harg2 arg3 harg3 arg4 harg4 arg5 harg5 arg6 harg6 arg7 harg7 arg8 harg8 arg9 harg9 arg10 harg10 arg11 harg11 arg12 harg12 X1 X2 k
      = ([⟨R1 k, k2_pay4 (View.ld (arg1.view.read (Elt F) X1) (R1 k)) (arg2.view.read (Elt F) X2)⟩],
         [⟨R1 k, k2_pay5 (View.ld (arg1.view.read (Elt F) X1) (R1 k)) (arg2.view.read (Elt F) X2)⟩],
         [⟨R2 k, k2_pay6 (View.ld (arg1.view.read (Elt F) X1) (R1 k)) (arg2.view.read (Elt F) X2)⟩]) := by
  conv_rhs => rw [← View.ld_unit_zero (S := S1x7168) hz2 inb_S1x7168_S1x7168_0_0 (arg2.view.read (Elt F) X2)]
  delta tripL_k2_t1 trip_k2_t1
  rfl

theorem pb1_eq (𝒱 : Variants) (c : Dev nD) (bd : Option 𝒱.V) (i : grid2.Coords) (arg1 : Memref sig .tc .vmem S256x7168 .bf16) (harg1 : arg1.IsWhole) (arg2 : Memref sig .tc .vmem S1x7168 .f32) (harg2 : arg2.IsWhole) (arg3 : Memref sig .tc .vmem S2112x7168 .bf16) (harg3 : arg3.IsWhole) (arg4 : Memref sig .tc .vmem S2112x1 .f32) (harg4 : arg4.IsWhole) (arg5 : Memref sig .tc .vmem S2112x1 .f32) (harg5 : arg5.IsWhole) (arg6 : Memref sig .tc .vmem S1x2112x256 .i8) (harg6 : arg6.IsWhole) (arg7 : Memref sig .tc .vmem S1x1x256 .f32) (harg7 : arg7.IsWhole) (arg8 : Memref sig .tc .vmem S256x7168 .i8) (harg8 : arg8.IsWhole) (arg9 : Memref sig .tc .vmem S1x1x256 .f32) (harg9 : arg9.IsWhole) (arg10 : Memref sig .tc .vmem S256x7168 .bf16) (harg10 : arg10.IsWhole) (arg11 : Memref sig .tc .vmem S2112x256 .f32) (harg11 : arg11.IsWhole) (arg12 : Memref sig .tc .vmem S256x128 .f32) (harg12 : arg12.IsWhole) (X1 : BufTy.Contents (Elt F) arg1.view.ty) (X2 : BufTy.Contents (Elt F) arg2.view.ty) : ∀ k, k ≤ k2_t1_loop.trips →
    pb_k2_t1 (F := F) 𝒱 c bd i arg1 harg1 arg2 harg2 arg3 harg3 arg4 harg4 arg5 harg5 arg6 harg6 arg7 harg7 arg8 harg8 arg9 harg9 arg10 harg10 arg11 harg11 arg12 harg12 X1 X2 k
      = (before (fun k => ⟨R1 k, k2_pay4 (View.ld (arg1.view.read (Elt F) X1) (R1 k)) (arg2.view.read (Elt F) X2)⟩) k,
         before (fun k => ⟨R1 k, k2_pay5 (View.ld (arg1.view.read (Elt F) X1) (R1 k)) (arg2.view.read (Elt F) X2)⟩) k,
         before (fun k => ⟨R2 k, k2_pay6 (View.ld (arg1.view.read (Elt F) X1) (R1 k)) (arg2.view.read (Elt F) X2)⟩) k)
  | 0, _ => by rw [pb_k2_t1.eq_1]; rfl
  | k + 1, hk => by
    have h := pb_k2_t1_succ (F := F) 𝒱 c bd i arg1 harg1 arg2 harg2 arg3 harg3 arg4 harg4 arg5 harg5 arg6 harg6 arg7 harg7 arg8 harg8 arg9 harg9 arg10 harg10 arg11 harg11 arg12 harg12 X1 X2 ⟨k, hk⟩
    rw [tripL1_eq, pb1_eq 𝒱 c bd i arg1 harg1 arg2 harg2 arg3 harg3 arg4 harg4 arg5 harg5 arg6 harg6 arg7 harg7 arg8 harg8 arg9 harg9 arg10 harg10 arg11 harg11 arg12 harg12 X1 X2 k (by omega)] at h
    refine h.trans ?_
    rw [before_succ _ ⟨k, hk⟩, before_succ _ ⟨k, hk⟩, before_succ _ ⟨k, hk⟩]
    rfl

theorem tripR2_eq (𝒱 : Variants) (c : Dev nD) (bd : Option 𝒱.V) (i : grid2.Coords) (arg1 : Memref sig .tc .vmem S256x7168 .bf16) (harg1 : arg1.IsWhole) (arg2 : Memref sig .tc .vmem S1x7168 .f32) (harg2 : arg2.IsWhole) (arg3 : Memref sig .tc .vmem S2112x7168 .bf16) (harg3 : arg3.IsWhole) (arg4 : Memref sig .tc .vmem S2112x1 .f32) (harg4 : arg4.IsWhole) (arg5 : Memref sig .tc .vmem S2112x1 .f32) (harg5 : arg5.IsWhole) (arg6 : Memref sig .tc .vmem S1x2112x256 .i8) (harg6 : arg6.IsWhole) (arg7 : Memref sig .tc .vmem S1x1x256 .f32) (harg7 : arg7.IsWhole) (arg8 : Memref sig .tc .vmem S256x7168 .i8) (harg8 : arg8.IsWhole) (arg9 : Memref sig .tc .vmem S1x1x256 .f32) (harg9 : arg9.IsWhole) (arg10 : Memref sig .tc .vmem S256x7168 .bf16) (harg10 : arg10.IsWhole) (arg11 : Memref sig .tc .vmem S2112x256 .f32) (harg11 : arg11.IsWhole) (arg12 : Memref sig .tc .vmem S256x128 .f32) (harg12 : arg12.IsWhole) (v1 : Vec F S256x128 .f32) (X3 : BufTy.Contents (Elt F) arg3.view.ty) (X4 : BufTy.Contents (Elt F) arg4.view.ty) (X5 : BufTy.Contents (Elt F) arg5.view.ty) (X10 : BufTy.Contents (Elt F) arg10.view.ty) (k : Fin k2_t2_loop.trips) (acc : FVec F S1x256 .f32) :
    tripR_k2_t2 (F := F) 𝒱 c bd i arg1 harg1 arg2 harg2 arg3 harg3 arg4 harg4 arg5 harg5 arg6 harg6 arg7 harg7 arg8 harg8 arg9 harg9 arg10 harg10 arg11 harg11 arg12 harg12 v1 X3 X4 X5 X10 k acc
      = k2_pay12 v1 acc (View.ld (arg3.view.read (Elt F) X3) (R3 k)) (arg10.view.read (Elt F) X10) (View.ld (arg4.view.read (Elt F) X4) (R4 k)) (View.ld (arg5.view.read (Elt F) X5) (R4 k)) := by
  conv_rhs => rw [← View.ld_unit_zero (S := S256x7168) hz2 inb_S256x7168_S256x7168_0_0 (arg10.view.read (Elt F) X10)]
  delta tripR_k2_t2 trip_k2_t2
  rfl

theorem tripL2_eq (𝒱 : Variants) (c : Dev nD) (bd : Option 𝒱.V) (i : grid2.Coords) (arg1 : Memref sig .tc .vmem S256x7168 .bf16) (harg1 : arg1.IsWhole) (arg2 : Memref sig .tc .vmem S1x7168 .f32) (harg2 : arg2.IsWhole) (arg3 : Memref sig .tc .vmem S2112x7168 .bf16) (harg3 : arg3.IsWhole) (arg4 : Memref sig .tc .vmem S2112x1 .f32) (harg4 : arg4.IsWhole) (arg5 : Memref sig .tc .vmem S2112x1 .f32) (harg5 : arg5.IsWhole) (arg6 : Memref sig .tc .vmem S1x2112x256 .i8) (harg6 : arg6.IsWhole) (arg7 : Memref sig .tc .vmem S1x1x256 .f32) (harg7 : arg7.IsWhole) (arg8 : Memref sig .tc .vmem S256x7168 .i8) (harg8 : arg8.IsWhole) (arg9 : Memref sig .tc .vmem S1x1x256 .f32) (harg9 : arg9.IsWhole) (arg10 : Memref sig .tc .vmem S256x7168 .bf16) (harg10 : arg10.IsWhole) (arg11 : Memref sig .tc .vmem S2112x256 .f32) (harg11 : arg11.IsWhole) (arg12 : Memref sig .tc .vmem S256x128 .f32) (harg12 : arg12.IsWhole) (v1 : Vec F S256x128 .f32) (X3 : BufTy.Contents (Elt F) arg3.view.ty) (X4 : BufTy.Contents (Elt F) arg4.view.ty) (X5 : BufTy.Contents (Elt F) arg5.view.ty) (X10 : BufTy.Contents (Elt F) arg10.view.ty) (k : Fin k2_t2_loop.trips) (acc : FVec F S1x256 .f32) :
    tripL_k2_t2 (F := F) 𝒱 c bd i arg1 harg1 arg2 harg2 arg3 harg3 arg4 harg4 arg5 harg5 arg6 harg6 arg7 harg7 arg8 harg8 arg9 harg9 arg10 harg10 arg11 harg11 arg12 harg12 v1 X3 X4 X5 X10 k acc
      = [⟨R5 k, k2_pay11 v1 (View.ld (arg3.view.read (Elt F) X3) (R3 k)) (arg10.view.read (Elt F) X10) (View.ld (arg4.view.read (Elt F) X4) (R4 k)) (View.ld (arg5.view.read (Elt F) X5) (R4 k))⟩] := by
  conv_rhs => rw [← View.ld_unit_zero (S := S256x7168) hz2 inb_S256x7168_S256x7168_0_0 (arg10.view.read (Elt F) X10)]
  delta tripL_k2_t2 trip_k2_t2
  rfl

theorem st2_eq (𝒱 : Variants) (c : Dev nD) (bd : Option 𝒱.V) (i : grid2.Coords) (arg1 : Memref sig .tc .vmem S256x7168 .bf16) (harg1 : arg1.IsWhole) (arg2 : Memref sig .tc .vmem S1x7168 .f32) (harg2 : arg2.IsWhole) (arg3 : Memref sig .tc .vmem S2112x7168 .bf16) (harg3 : arg3.IsWhole) (arg4 : Memref sig .tc .vmem S2112x1 .f32) (harg4 : arg4.IsWhole) (arg5 : Memref sig .tc .vmem S2112x1 .f32) (harg5 : arg5.IsWhole) (arg6 : Memref sig .tc .vmem S1x2112x256 .i8) (harg6 : arg6.IsWhole) (arg7 : Memref sig .tc .vmem S1x1x256 .f32) (harg7 : arg7.IsWhole) (arg8 : Memref sig .tc .vmem S256x7168 .i8) (harg8 : arg8.IsWhole) (arg9 : Memref sig .tc .vmem S1x1x256 .f32) (harg9 : arg9.IsWhole) (arg10 : Memref sig .tc .vmem S256x7168 .bf16) (harg10 : arg10.IsWhole) (arg11 : Memref sig .tc .vmem S2112x256 .f32) (harg11 : arg11.IsWhole) (arg12 : Memref sig .tc .vmem S256x128 .f32) (harg12 : arg12.IsWhole) (v1 : Vec F S256x128 .f32) (X3 : BufTy.Contents (Elt F) arg3.view.ty) (X4 : BufTy.Contents (Elt F) arg4.view.ty) (X5 : BufTy.Contents (Elt F) arg5.view.ty) (X10 : BufTy.Contents (Elt F) arg10.view.ty) : ∀ k, k ≤ k2_t2_loop.trips →
    st_k2_t2 (F := F) 𝒱 c bd i arg1 harg1 arg2 harg2 arg3 harg3 arg4 harg4 arg5 harg5 arg6 harg6 arg7 harg7 arg8 harg8 arg9 harg9 arg10 harg10 arg11 harg11 arg12 harg12 v1 X3 X4 X5 X10 (k2_pay9 (F := F)) k
      = (zmax v1 (arg10.view.read (Elt F) X10) (arg3.view.read (Elt F) X3) (arg4.view.read (Elt F) X4) (arg5.view.read (Elt F) X5) k,
         before (fun k => ⟨R5 k, k2_pay11 v1 (View.ld (arg3.view.read (Elt F) X3) (R3 k)) (arg10.view.read (Elt F) X10) (View.ld (arg4.view.read (Elt F) X4) (R4 k)) (View.ld (arg5.view.read (Elt F) X5) (R4 k))⟩) k)
  | 0, _ => by rw [st_k2_t2.eq_1]; rfl
  | k + 1, hk => by
    have h := st_k2_t2_succ (F := F) 𝒱 c bd i arg1 harg1 arg2 harg2 arg3 harg3 arg4 harg4 arg5 harg5 arg6 harg6 arg7 harg7 arg8 harg8 arg9 harg9 arg10 harg10 arg11 harg11 arg12 harg12 v1 X3 X4 X5 X10 (k2_pay9 (F := F)) ⟨k, hk⟩
    rw [tripR2_eq, tripL2_eq, st2_eq 𝒱 c bd i arg1 harg1 arg2 harg2 arg3 harg3 arg4 harg4 arg5 harg5 arg6 harg6 arg7 harg7 arg8 harg8 arg9 harg9 arg10 harg10 arg11 harg11 arg12 harg12 v1 X3 X4 X5 X10 k (by omega)] at h
    refine h.trans ?_
    rw [before_succ _ ⟨k, hk⟩]
    exact Prod.ext (zmax_succ v1 _ _ _ _ ⟨k, hk⟩).symm rfl

theorem tripL3_eq (𝒱 : Variants) (c : Dev nD) (bd : Option 𝒱.V) (i : grid2.Coords) (arg1 : Memref sig .tc .vmem S256x7168 .bf16) (harg1 : arg1.IsWhole) (arg2 : Memref sig .tc .vmem S1x7168 .f32) (harg2 : arg2.IsWhole) (arg3 : Memref sig .tc .vmem S2112x7168 .bf16) (harg3 : arg3.IsWhole) (arg4 : Memref sig .tc .vmem S2112x1 .f32) (harg4 : arg4.IsWhole) (arg5 : Memref sig .tc .vmem S2112x1 .f32) (harg5 : arg5.IsWhole) (arg6 : Memref sig .tc .vmem S1x2112x256 .i8) (harg6 : arg6.IsWhole) (arg7 : Memref sig .tc .vmem S1x1x256 .f32) (harg7 : arg7.IsWhole) (arg8 : Memref sig .tc .vmem S256x7168 .i8) (harg8 : arg8.IsWhole) (arg9 : Memref sig .tc .vmem S1x1x256 .f32) (harg9 : arg9.IsWhole) (arg10 : Memref sig .tc .vmem S256x7168 .bf16) (harg10 : arg10.IsWhole) (arg11 : Memref sig .tc .vmem S2112x256 .f32) (harg11 : arg11.IsWhole) (arg12 : Memref sig .tc .vmem S256x128 .f32) (harg12 : arg12.IsWhole) (v9 : FVec F S1x256 .f32) (X11 : BufTy.Contents (Elt F) arg11.view.ty) (k : Fin k2_t3_loop.trips) :
    tripL_k2_t3 (F := F) 𝒱 c bd i arg1 harg1 arg2 harg2 arg3 harg3 arg4 harg4 arg5 harg5 arg6 harg6 arg7 harg7 arg8 harg8 arg9 harg9 arg10 harg10 arg11 harg11 arg12 harg12 v9 X11 k
      = [⟨R7 k, k2_pay15 v9 (View.ld (arg11.view.read (Elt F) X11) (R6 k))⟩] := by
  delta tripL_k2_t3 trip_k2_t3
  rfl

theorem pb3_eq (𝒱 : Variants) (c : Dev nD) (bd : Option 𝒱.V) (i : grid2.Coords) (arg1 : Memref sig .tc .vmem S256x7168 .bf16) (harg1 : arg1.IsWhole) (arg2 : Memref sig .tc .vmem S1x7168 .f32) (harg2 : arg2.IsWhole) (arg3 : Memref sig .tc .vmem S2112x7168 .bf16) (harg3 : arg3.IsWhole) (arg4 : Memref sig .tc .vmem S2112x1 .f32) (harg4 : arg4.IsWhole) (arg5 : Memref sig .tc .vmem S2112x1 .f32) (harg5 : arg5.IsWhole) (arg6 : Memref sig .tc .vmem S1x2112x256 .i8) (harg6 : arg6.IsWhole) (arg7 : Memref sig .tc .vmem S1x1x256 .f32) (harg7 : arg7.IsWhole) (arg8 : Memref sig .tc .vmem S256x7168 .i8) (harg8 : arg8.IsWhole) (arg9 : Memref sig .tc .vmem S1x1x256 .f32) (harg9 : arg9.IsWhole) (arg10 : Memref sig .tc .vmem S256x7168 .bf16) (harg10 : arg10.IsWhole) (arg11 : Memref sig .tc .vmem S2112x256 .f32) (harg11 : arg11.IsWhole) (arg12 : Memref sig .tc .vmem S256x128 .f32) (harg12 : arg12.IsWhole) (v9 : FVec F S1x256 .f32) (X11 : BufTy.Contents (Elt F) arg11.view.ty) : ∀ k, k ≤ k2_t3_loop.trips →
    pb_k2_t3 (F := F) 𝒱 c bd i arg1 harg1 arg2 harg2 arg3 harg3 arg4 harg4 arg5 harg5 arg6 harg6 arg7 harg7 arg8 harg8 arg9 harg9 arg10 harg10 arg11 harg11 arg12 harg12 v9 X11 k
      = before (fun k => ⟨R7 k, k2_pay15 v9 (View.ld (arg11.view.read (Elt F) X11) (R6 k))⟩) k
  | 0, _ => by rw [pb_k2_t3.eq_1]; rfl
  | k + 1, hk => by
    have h := pb_k2_t3_succ (F := F) 𝒱 c bd i arg1 harg1 arg2 harg2 arg3 harg3 arg4 harg4 arg5 harg5 arg6 harg6 arg7 harg7 arg8 harg8 arg9 harg9 arg10 harg10 arg11 harg11 arg12 harg12 v9 X11 ⟨k, hk⟩
    rw [tripL3_eq, pb3_eq 𝒱 c bd i arg1 harg1 arg2 harg2 arg3 harg3 arg4 harg4 arg5 harg5 arg6 harg6 arg7 harg7 arg8 harg8 arg9 harg9 arg10 harg10 arg11 harg11 arg12 harg12 v9 X11 k (by omega)] at h
    refine h.trans ?_
    rw [before_succ _ ⟨k, hk⟩]
    rfl

end Cert.KernelIdeal.Run

end
-- ==== Proof.RunIdeal.Linear.lean ====
/- The third call of @main, the linear layer: what its body leaves at every grid point, as explicit contents of the
   blocks it reads. -/
module

public import proofs.«01_k».proof.Proof.RunIdeal.Loops

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The layer's outputs on a block. -/
def out2_z (x0 : Vec F S256x7168 .bf16) (x1 : Vec F S1x7168 .f32) (x2 : Vec F S2112x7168 .bf16) (x3 x4 : Vec F S2112x1 .f32) : Vec F S2112x256 .f32 :=
  zout (xscale x0 x1) (xquant x0 x1) x2 x3 x4
/-- Their largest absolute values, per row. -/
def out2_m (x0 : Vec F S256x7168 .bf16) (x1 : Vec F S1x7168 .f32) (x2 : Vec F S2112x7168 .bf16) (x3 x4 : Vec F S2112x1 .f32) : FVec F S1x256 .f32 :=
  zmax (xscale x0 x1) (xquant x0 x1) x2 x3 x4 k2_t2_loop.trips
/-- The output codes' block after the body. -/
def out2_5 (x0 : Vec F S256x7168 .bf16) (x1 : Vec F S1x7168 .f32) (x2 : Vec F S2112x7168 .bf16) (x3 x4 : Vec F S2112x1 .f32) : Vec F S1x2112x256 .i8 :=
  zcodes (out2_m x0 x1 x2 x3 x4) (out2_z x0 x1 x2 x3 x4)
/-- The output scales' block after the body. -/
def out2_6 (x0 : Vec F S256x7168 .bf16) (x1 : Vec F S1x7168 .f32) (x2 : Vec F S2112x7168 .bf16) (x3 x4 : Vec F S2112x1 .f32) : Vec F S1x1x256 .f32 :=
  k2_pay14 (out2_m x0 x1 x2 x3 x4)

/-- After the first loop the codes' buffer holds the codes. -/
theorem read_xcodes {𝒱 : Variants} {c : Dev nD} {bd : Option 𝒱.V} {i : grid2.Coords} {arg1 : Memref sig .tc .vmem S256x7168 .bf16} {harg1 : arg1.IsWhole} {arg2 : Memref sig .tc .vmem S1x7168 .f32} {harg2 : arg2.IsWhole} {arg3 : Memref sig .tc .vmem S2112x7168 .bf16} {harg3 : arg3.IsWhole} {arg4 : Memref sig .tc .vmem S2112x1 .f32} {harg4 : arg4.IsWhole} {arg5 : Memref sig .tc .vmem S2112x1 .f32} {harg5 : arg5.IsWhole} {arg6 : Memref sig .tc .vmem S1x2112x256 .i8} {harg6 : arg6.IsWhole} {arg7 : Memref sig .tc .vmem S1x1x256 .f32} {harg7 : arg7.IsWhole} {arg8 : Memref sig .tc .vmem S256x7168 .i8} {harg8 : arg8.IsWhole} {arg9 : Memref sig .tc .vmem S1x1x256 .f32} {harg9 : arg9.IsWhole} {arg10 : Memref sig .tc .vmem S256x7168 .bf16} {harg10 : arg10.IsWhole} {arg11 : Memref sig .tc .vmem S2112x256 .f32} {harg11 : arg11.IsWhole} {arg12 : Memref sig .tc .vmem S256x128 .f32} {harg12 : arg12.IsWhole} (f1 : BufTy.Contents (Elt F) arg1.view.ty) (f2 : BufTy.Contents (Elt F) arg2.view.ty) (f8 : BufTy.Contents (Elt F) arg8.view.ty) :
    arg8.view.read (Elt F) (arg8.view.writes (Elt F) f8 (pb_k2_t1 (F := F) 𝒱 c bd i arg1 harg1 arg2 harg2 arg3 harg3 arg4 harg4 arg5 harg5 arg6 harg6 arg7 harg7 arg8 harg8 arg9 harg9 arg10 harg10 arg11 harg11 arg12 harg12 f1 f2 (Scf.trips k2_t1_loop.lb k2_t1_loop.ub k2_t1_loop.st)).1)
      = xcodes (arg1.view.read (Elt F) f1) (arg2.view.read (Elt F) f2) := by
  rw [show Scf.trips k2_t1_loop.lb k2_t1_loop.ub k2_t1_loop.st = k2_t1_loop.trips from rfl, pb1_eq (F := F) 𝒱 c bd i arg1 harg1 arg2 harg2 arg3 harg3 arg4 harg4 arg5 harg5 arg6 harg6 arg7 harg7 arg8 harg8 arg9 harg9 arg10 harg10 arg11 harg11 arg12 harg12 f1 f2 _ (le_refl _)]
  exact read_before blocks1 k2_off1_inb _ _ _

/-- After the first loop the first scratch holds the codes as bfloat16. -/
theorem read_xquant {𝒱 : Variants} {c : Dev nD} {bd : Option 𝒱.V} {i : grid2.Coords} {arg1 : Memref sig .tc .vmem S256x7168 .bf16} {harg1 : arg1.IsWhole} {arg2 : Memref sig .tc .vmem S1x7168 .f32} {harg2 : arg2.IsWhole} {arg3 : Memref sig .tc .vmem S2112x7168 .bf16} {harg3 : arg3.IsWhole} {arg4 : Memref sig .tc .vmem S2112x1 .f32} {harg4 : arg4.IsWhole} {arg5 : Memref sig .tc .vmem S2112x1 .f32} {harg5 : arg5.IsWhole} {arg6 : Memref sig .tc .vmem S1x2112x256 .i8} {harg6 : arg6.IsWhole} {arg7 : Memref sig .tc .vmem S1x1x256 .f32} {harg7 : arg7.IsWhole} {arg8 : Memref sig .tc .vmem S256x7168 .i8} {harg8 : arg8.IsWhole} {arg9 : Memref sig .tc .vmem S1x1x256 .f32} {harg9 : arg9.IsWhole} {arg10 : Memref sig .tc .vmem S256x7168 .bf16} {harg10 : arg10.IsWhole} {arg11 : Memref sig .tc .vmem S2112x256 .f32} {harg11 : arg11.IsWhole} {arg12 : Memref sig .tc .vmem S256x128 .f32} {harg12 : arg12.IsWhole} (f1 : BufTy.Contents (Elt F) arg1.view.ty) (f2 : BufTy.Contents (Elt F) arg2.view.ty) (f10 : BufTy.Contents (Elt F) arg10.view.ty) :
    arg10.view.read (Elt F) (arg10.view.writes (Elt F) f10 (pb_k2_t1 (F := F) 𝒱 c bd i arg1 harg1 arg2 harg2 arg3 harg3 arg4 harg4 arg5 harg5 arg6 harg6 arg7 harg7 arg8 harg8 arg9 harg9 arg10 harg10 arg11 harg11 arg12 harg12 f1 f2 (Scf.trips k2_t1_loop.lb k2_t1_loop.ub k2_t1_loop.st)).2.1)
      = xquant (arg1.view.read (Elt F) f1) (arg2.view.read (Elt F) f2) := by
  rw [show Scf.trips k2_t1_loop.lb k2_t1_loop.ub k2_t1_loop.st = k2_t1_loop.trips from rfl, pb1_eq (F := F) 𝒱 c bd i arg1 harg1 arg2 harg2 arg3 harg3 arg4 harg4 arg5 harg5 arg6 harg6 arg7 harg7 arg8 harg8 arg9 harg9 arg10 harg10 arg11 harg11 arg12 harg12 f1 f2 _ (le_refl _)]
  exact read_before blocks1 k2_off1_inb _ _ _

/-- After the first loop the third scratch holds the scales. -/
theorem load_xscale {𝒱 : Variants} {c : Dev nD} {bd : Option 𝒱.V} {i : grid2.Coords} {arg1 : Memref sig .tc .vmem S256x7168 .bf16} {harg1 : arg1.IsWhole} {arg2 : Memref sig .tc .vmem S1x7168 .f32} {harg2 : arg2.IsWhole} {arg3 : Memref sig .tc .vmem S2112x7168 .bf16} {harg3 : arg3.IsWhole} {arg4 : Memref sig .tc .vmem S2112x1 .f32} {harg4 : arg4.IsWhole} {arg5 : Memref sig .tc .vmem S2112x1 .f32} {harg5 : arg5.IsWhole} {arg6 : Memref sig .tc .vmem S1x2112x256 .i8} {harg6 : arg6.IsWhole} {arg7 : Memref sig .tc .vmem S1x1x256 .f32} {harg7 : arg7.IsWhole} {arg8 : Memref sig .tc .vmem S256x7168 .i8} {harg8 : arg8.IsWhole} {arg9 : Memref sig .tc .vmem S1x1x256 .f32} {harg9 : arg9.IsWhole} {arg10 : Memref sig .tc .vmem S256x7168 .bf16} {harg10 : arg10.IsWhole} {arg11 : Memref sig .tc .vmem S2112x256 .f32} {harg11 : arg11.IsWhole} {arg12 : Memref sig .tc .vmem S256x128 .f32} {harg12 : arg12.IsWhole} (f1 : BufTy.Contents (Elt F) arg1.view.ty) (f2 : BufTy.Contents (Elt F) arg2.view.ty) (f12 : BufTy.Contents (Elt F) arg12.view.ty) :
    View.readAt (Elt F) arg12.view (Rect.unit (s := S256x128) ![0, 0] S256x128.size inb_S256x128_S256x128_0_0).toLoadRect (arg12.view.writes (Elt F) f12 (pb_k2_t1 (F := F) 𝒱 c bd i arg1 harg1 arg2 harg2 arg3 harg3 arg4 harg4 arg5 harg5 arg6 harg6 arg7 harg7 arg8 harg8 arg9 harg9 arg10 harg10 arg11 harg11 arg12 harg12 f1 f2 (Scf.trips k2_t1_loop.lb k2_t1_loop.ub k2_t1_loop.st)).2.2)
      = xscale (arg1.view.read (Elt F) f1) (arg2.view.read (Elt F) f2) := by
  rw [View.readAt_eq_ld, View.ld_unit_zero (S := S256x128) hz2, show Scf.trips k2_t1_loop.lb k2_t1_loop.ub k2_t1_loop.st = k2_t1_loop.trips from rfl, pb1_eq (F := F) 𝒱 c bd i arg1 harg1 arg2 harg2 arg3 harg3 arg4 harg4 arg5 harg5 arg6 harg6 arg7 harg7 arg8 harg8 arg9 harg9 arg10 harg10 arg11 harg11 arg12 harg12 f1 f2 _ (le_refl _)]
  exact read_before blocks2 k2_off2_inb _ _ _

/-- The second loop carries out the largest absolute values. -/
theorem zmax_eq {𝒱 : Variants} {c : Dev nD} {bd : Option 𝒱.V} {i : grid2.Coords} {arg1 : Memref sig .tc .vmem S256x7168 .bf16} {harg1 : arg1.IsWhole} {arg2 : Memref sig .tc .vmem S1x7168 .f32} {harg2 : arg2.IsWhole} {arg3 : Memref sig .tc .vmem S2112x7168 .bf16} {harg3 : arg3.IsWhole} {arg4 : Memref sig .tc .vmem S2112x1 .f32} {harg4 : arg4.IsWhole} {arg5 : Memref sig .tc .vmem S2112x1 .f32} {harg5 : arg5.IsWhole} {arg6 : Memref sig .tc .vmem S1x2112x256 .i8} {harg6 : arg6.IsWhole} {arg7 : Memref sig .tc .vmem S1x1x256 .f32} {harg7 : arg7.IsWhole} {arg8 : Memref sig .tc .vmem S256x7168 .i8} {harg8 : arg8.IsWhole} {arg9 : Memref sig .tc .vmem S1x1x256 .f32} {harg9 : arg9.IsWhole} {arg10 : Memref sig .tc .vmem S256x7168 .bf16} {harg10 : arg10.IsWhole} {arg11 : Memref sig .tc .vmem S2112x256 .f32} {harg11 : arg11.IsWhole} {arg12 : Memref sig .tc .vmem S256x128 .f32} {harg12 : arg12.IsWhole} (f1 : BufTy.Contents (Elt F) arg1.view.ty) (f2 : BufTy.Contents (Elt F) arg2.view.ty) (v1 : Vec F S256x128 .f32) (f3 : BufTy.Contents (Elt F) arg3.view.ty) (f4 : BufTy.Contents (Elt F) arg4.view.ty) (f5 : BufTy.Contents (Elt F) arg5.view.ty) (f10 : BufTy.Contents (Elt F) arg10.view.ty) :
    (st_k2_t2 (F := F) 𝒱 c bd i arg1 harg1 arg2 harg2 arg3 harg3 arg4 harg4 arg5 harg5 arg6 harg6 arg7 harg7 arg8 harg8 arg9 harg9 arg10 harg10 arg11 harg11 arg12 harg12 v1 f3 f4 f5 (arg10.view.writes (Elt F) f10 (pb_k2_t1 (F := F) 𝒱 c bd i arg1 harg1 arg2 harg2 arg3 harg3 arg4 harg4 arg5 harg5 arg6 harg6 arg7 harg7 arg8 harg8 arg9 harg9 arg10 harg10 arg11 harg11 arg12 harg12 f1 f2 (Scf.trips k2_t1_loop.lb k2_t1_loop.ub k2_t1_loop.st)).2.1) (k2_pay9 (F := F)) (Scf.trips k2_t2_loop.lb k2_t2_loop.ub k2_t2_loop.st)).1
      = zmax v1 (xquant (arg1.view.read (Elt F) f1) (arg2.view.read (Elt F) f2)) (arg3.view.read (Elt F) f3) (arg4.view.read (Elt F) f4) (arg5.view.read (Elt F) f5) k2_t2_loop.trips := by
  rw [show Scf.trips k2_t2_loop.lb k2_t2_loop.ub k2_t2_loop.st = k2_t2_loop.trips from rfl, st2_eq (F := F) 𝒱 c bd i arg1 harg1 arg2 harg2 arg3 harg3 arg4 harg4 arg5 harg5 arg6 harg6 arg7 harg7 arg8 harg8 arg9 harg9 arg10 harg10 arg11 harg11 arg12 harg12 v1 f3 f4 f5 _ _ (le_refl _), read_xquant (F := F)]

/-- After the second loop the second scratch holds the outputs. -/
theorem read_zout {𝒱 : Variants} {c : Dev nD} {bd : Option 𝒱.V} {i : grid2.Coords} {arg1 : Memref sig .tc .vmem S256x7168 .bf16} {harg1 : arg1.IsWhole} {arg2 : Memref sig .tc .vmem S1x7168 .f32} {harg2 : arg2.IsWhole} {arg3 : Memref sig .tc .vmem S2112x7168 .bf16} {harg3 : arg3.IsWhole} {arg4 : Memref sig .tc .vmem S2112x1 .f32} {harg4 : arg4.IsWhole} {arg5 : Memref sig .tc .vmem S2112x1 .f32} {harg5 : arg5.IsWhole} {arg6 : Memref sig .tc .vmem S1x2112x256 .i8} {harg6 : arg6.IsWhole} {arg7 : Memref sig .tc .vmem S1x1x256 .f32} {harg7 : arg7.IsWhole} {arg8 : Memref sig .tc .vmem S256x7168 .i8} {harg8 : arg8.IsWhole} {arg9 : Memref sig .tc .vmem S1x1x256 .f32} {harg9 : arg9.IsWhole} {arg10 : Memref sig .tc .vmem S256x7168 .bf16} {harg10 : arg10.IsWhole} {arg11 : Memref sig .tc .vmem S2112x256 .f32} {harg11 : arg11.IsWhole} {arg12 : Memref sig .tc .vmem S256x128 .f32} {harg12 : arg12.IsWhole} (f1 : BufTy.Contents (Elt F) arg1.view.ty) (f2 : BufTy.Contents (Elt F) arg2.view.ty) (v1 : Vec F S256x128 .f32) (f3 : BufTy.Contents (Elt F) arg3.view.ty) (f4 : BufTy.Contents (Elt F) arg4.view.ty) (f5 : BufTy.Contents (Elt F) arg5.view.ty) (f10 : BufTy.Contents (Elt F) arg10.view.ty) (f11 : BufTy.Contents (Elt F) arg11.view.ty) :
    arg11.view.read (Elt F) (arg11.view.writes (Elt F) f11 (st_k2_t2 (F := F) 𝒱 c bd i arg1 harg1 arg2 harg2 arg3 harg3 arg4 harg4 arg5 harg5 arg6 harg6 arg7 harg7 arg8 harg8 arg9 harg9 arg10 harg10 arg11 harg11 arg12 harg12 v1 f3 f4 f5 (arg10.view.writes (Elt F) f10 (pb_k2_t1 (F := F) 𝒱 c bd i arg1 harg1 arg2 harg2 arg3 harg3 arg4 harg4 arg5 harg5 arg6 harg6 arg7 harg7 arg8 harg8 arg9 harg9 arg10 harg10 arg11 harg11 arg12 harg12 f1 f2 (Scf.trips k2_t1_loop.lb k2_t1_loop.ub k2_t1_loop.st)).2.1) (k2_pay9 (F := F)) (Scf.trips k2_t2_loop.lb k2_t2_loop.ub k2_t2_loop.st)).2)
      = zout v1 (xquant (arg1.view.read (Elt F) f1) (arg2.view.read (Elt F) f2)) (arg3.view.read (Elt F) f3) (arg4.view.read (Elt F) f4) (arg5.view.read (Elt F) f5) := by
  rw [show Scf.trips k2_t2_loop.lb k2_t2_loop.ub k2_t2_loop.st = k2_t2_loop.trips from rfl, st2_eq (F := F) 𝒱 c bd i arg1 harg1 arg2 harg2 arg3 harg3 arg4 harg4 arg5 harg5 arg6 harg6 arg7 harg7 arg8 harg8 arg9 harg9 arg10 harg10 arg11 harg11 arg12 harg12 v1 f3 f4 f5 _ _ (le_refl _), read_xquant (F := F)]
  exact read_before blocks5 k2_off5_inb _ _ _

/-- After the third loop the output codes' buffer holds the codes. -/
theorem read_zcodes {𝒱 : Variants} {c : Dev nD} {bd : Option 𝒱.V} {i : grid2.Coords} {arg1 : Memref sig .tc .vmem S256x7168 .bf16} {harg1 : arg1.IsWhole} {arg2 : Memref sig .tc .vmem S1x7168 .f32} {harg2 : arg2.IsWhole} {arg3 : Memref sig .tc .vmem S2112x7168 .bf16} {harg3 : arg3.IsWhole} {arg4 : Memref sig .tc .vmem S2112x1 .f32} {harg4 : arg4.IsWhole} {arg5 : Memref sig .tc .vmem S2112x1 .f32} {harg5 : arg5.IsWhole} {arg6 : Memref sig .tc .vmem S1x2112x256 .i8} {harg6 : arg6.IsWhole} {arg7 : Memref sig .tc .vmem S1x1x256 .f32} {harg7 : arg7.IsWhole} {arg8 : Memref sig .tc .vmem S256x7168 .i8} {harg8 : arg8.IsWhole} {arg9 : Memref sig .tc .vmem S1x1x256 .f32} {harg9 : arg9.IsWhole} {arg10 : Memref sig .tc .vmem S256x7168 .bf16} {harg10 : arg10.IsWhole} {arg11 : Memref sig .tc .vmem S2112x256 .f32} {harg11 : arg11.IsWhole} {arg12 : Memref sig .tc .vmem S256x128 .f32} {harg12 : arg12.IsWhole} (f1 : BufTy.Contents (Elt F) arg1.view.ty) (f2 : BufTy.Contents (Elt F) arg2.view.ty) (v1 : Vec F S256x128 .f32) (f3 : BufTy.Contents (Elt F) arg3.view.ty) (f4 : BufTy.Contents (Elt F) arg4.view.ty) (f5 : BufTy.Contents (Elt F) arg5.view.ty) (f10 : BufTy.Contents (Elt F) arg10.view.ty) (v9 : FVec F S1x256 .f32) (f11 : BufTy.Contents (Elt F) arg11.view.ty) (f6 : BufTy.Contents (Elt F) arg6.view.ty) :
    arg6.view.read (Elt F) (arg6.view.writes (Elt F) f6 (pb_k2_t3 (F := F) 𝒱 c bd i arg1 harg1 arg2 harg2 arg3 harg3 arg4 harg4 arg5 harg5 arg6 harg6 arg7 harg7 arg8 harg8 arg9 harg9 arg10 harg10 arg11 harg11 arg12 harg12 v9 (arg11.view.writes (Elt F) f11 (st_k2_t2 (F := F) 𝒱 c bd i arg1 harg1 arg2 harg2 arg3 harg3 arg4 harg4 arg5 harg5 arg6 harg6 arg7 harg7 arg8 harg8 arg9 harg9 arg10 harg10 arg11 harg11 arg12 harg12 v1 f3 f4 f5 (arg10.view.writes (Elt F) f10 (pb_k2_t1 (F := F) 𝒱 c bd i arg1 harg1 arg2 harg2 arg3 harg3 arg4 harg4 arg5 harg5 arg6 harg6 arg7 harg7 arg8 harg8 arg9 harg9 arg10 harg10 arg11 harg11 arg12 harg12 f1 f2 (Scf.trips k2_t1_loop.lb k2_t1_loop.ub k2_t1_loop.st)).2.1) (k2_pay9 (F := F)) (Scf.trips k2_t2_loop.lb k2_t2_loop.ub k2_t2_loop.st)).2) (Scf.trips k2_t3_loop.lb k2_t3_loop.ub k2_t3_loop.st)))
      = zcodes v9 (zout v1 (xquant (arg1.view.read (Elt F) f1) (arg2.view.read (Elt F) f2)) (arg3.view.read (Elt F) f3) (arg4.view.read (Elt F) f4) (arg5.view.read (Elt F) f5)) := by
  rw [show Scf.trips k2_t3_loop.lb k2_t3_loop.ub k2_t3_loop.st = k2_t3_loop.trips from rfl, pb3_eq (F := F) 𝒱 c bd i arg1 harg1 arg2 harg2 arg3 harg3 arg4 harg4 arg5 harg5 arg6 harg6 arg7 harg7 arg8 harg8 arg9 harg9 arg10 harg10 arg11 harg11 arg12 harg12 _ _ _ (le_refl _), read_zout (F := F)]
  exact read_before blocks7 k2_off7_inb _ _ _

set_option maxHeartbeats 2000000 in
/-- The body on whole memrefs, the inputs at read contents, the outputs and the scratches at anything, leaves the inputs
    as they were, the outputs at the explicit contents and the scratches at something. -/
theorem sound_kernel2 (c : Dev nD) (E : Set ℕ) (i : grid2.Coords) (arg1 : Memref sig .tc .vmem S256x7168 .bf16) (harg1 : arg1.IsWhole) (arg2 : Memref sig .tc .vmem S1x7168 .f32) (harg2 : arg2.IsWhole) (arg3 : Memref sig .tc .vmem S2112x7168 .bf16) (harg3 : arg3.IsWhole) (arg4 : Memref sig .tc .vmem S2112x1 .f32) (harg4 : arg4.IsWhole) (arg5 : Memref sig .tc .vmem S2112x1 .f32) (harg5 : arg5.IsWhole) (arg6 : Memref sig .tc .vmem S1x2112x256 .i8) (harg6 : arg6.IsWhole) (arg7 : Memref sig .tc .vmem S1x1x256 .f32) (harg7 : arg7.IsWhole) (arg8 : Memref sig .tc .vmem S256x7168 .i8) (harg8 : arg8.IsWhole) (arg9 : Memref sig .tc .vmem S1x1x256 .f32) (harg9 : arg9.IsWhole) (arg10 : Memref sig .tc .vmem S256x7168 .bf16) (harg10 : arg10.IsWhole) (arg11 : Memref sig .tc .vmem S2112x256 .f32) (harg11 : arg11.IsWhole) (arg12 : Memref sig .tc .vmem S256x128 .f32) (harg12 : arg12.IsWhole) (x0 : Vec F S256x7168 .bf16) (x1 : Vec F S1x7168 .f32) (x2 : Vec F S2112x7168 .bf16) (x3 x4 : Vec F S2112x1 .f32) (K : PUnit.{1} → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out2_5 x0 x1 x2 x3 x4) ∗ owns (c : Thread nD τ) arg7 fullShare (out2_6 x0 x1 x2 x3 x4) ∗ owns (c : Thread nD τ) arg8 fullShare (xcodes x0 x1) ∗ owns (c : Thread nD τ) arg9 fullShare (k2_pay8 (xscale x0 x1)) ∗ (∃ d, owns (c : Thread nD τ) arg10 fullShare d) ∗ (∃ d, owns (c : Thread nD τ) arg11 fullShare d) ∗ (∃ d, owns (c : Thread nD τ) arg12 fullShare d)) -∗ K ⟨⟩))
      ⊢ wp frame (wpE (defs₀ (F := F)) Variants.none c none) E (cc2_linear i arg1 harg1 arg2 harg2 arg3 harg3 arg4 harg4 arg5 harg5 arg6 harg6 arg7 harg7 arg8 harg8 arg9 harg9 arg10 harg10 arg11 harg11 arg12 harg12) K := by
  simp only [cc2_linear_eq_skeleton]; unfold cc2_linear_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_words
    unfold out2_5 out2_m out2_z; rw [load_xscale (F := F), zmax_eq (F := F)]; exact read_zcodes (F := F) _ _ _ _ _ _ _ _ _ _
  isplitl [H7]
  · iexists _; isplitr
    swap; · iexact H7
    ipureintro
    sl_unfold_words
    rw [read_writes_full _ _ hz3]; unfold out2_6 out2_m; rw [load_xscale (F := F), zmax_eq (F := F)]
  isplitl [H8]
  · iexists _; isplitr
    swap; · iexact H8
    ipureintro
    sl_unfold_words
    exact read_xcodes (F := F) _ _ _
  isplitl [H9]
  · iexists _; isplitr
    swap; · iexact H9
    ipureintro
    sl_unfold_words
    rw [read_writes_full _ _ hz3]; exact congrArg k2_pay8 (load_xscale (F := F) _ _ _)
  isplitl [H10]
  · iexists _, _; isplitr
    swap; · iexact H10
    ipureintro; rfl
  isplitl [H11]
  · iexists _, _; isplitr
    swap; · iexact H11
    ipureintro; rfl
  · iexists _, _; isplitr
    swap; · iexact H12
    ipureintro; rfl

variable (V : Bufs F)

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's staging buffer holds its block at every point, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- The proof data of the call on core `c`: the arrays as the region finds them; after the body each input's buffer at its
    block, each output's at the explicit contents; the scratches at anything between the points. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
    | ⟨6, _⟩ => out2_6 (iblk2 V c 0 t) (iblk2 V c 1 t) (iblk2 V c 2 t) (iblk2 V c 3 t) (iblk2 V c 4 t)
    | ⟨7, _⟩ => xcodes (iblk2 V c 0 t) (iblk2 V c 1 t)
    | ⟨8, _⟩ => k2_pay8 (xscale (iblk2 V c 0 t) (iblk2 V c 1 t))
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) := by dsimp only [dat2]
theorem after2_7 (c : Dev nD) (t : Fin cfg2.N) : (dat2 V c).after 7 t = xcodes (iblk2 V c 0 t) (iblk2 V c 1 t) := by dsimp only [dat2]
theorem after2_8 (c : Dev nD) (t : Fin cfg2.N) : (dat2 V c).after 8 t = k2_pay8 (xscale (iblk2 V c 0 t) (iblk2 V c 1 t)) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- What is left of the kernel's memory besides its three scratches. -/
abbrev Rest2 (c : Dev nD) : sProp 𝕄 := Pipeline.scopedRestBut (Ix := Unit) (Name := ℕ) (U := UR sig nD τ) (Lvl := ℕ) spec2 c [cc2_scratch0, cc2_scratch1, cc2_scratch2]

/-- The invariant, opened: the three scratches at anything, the rest, the generator register. -/
theorem PhiA2_eq (c : Dev nD) : (Pipeline.ΦA spec2 c : sProp 𝕄) =
    iprop((((∃ d, owns (c : Thread nD τ) (Memref.whole cc2_scratch0) fullShare d) ∗ (∃ d, owns (c : Thread nD τ) (Memref.whole cc2_scratch1) fullShare d)
      ∗ (∃ d, owns (c : Thread nD τ) (Memref.whole cc2_scratch2) fullShare d)) ∗ Rest2 (F := F) c) ∗ (∃ r, prngReg c r)) := by
  unfold Pipeline.ΦA
  rw [Pipeline.scopedRest_split_of_list spec2 c [cc2_scratch0, cc2_scratch1, cc2_scratch2] (by decide) (by decide)]
  simp only [BI.bigSepL_cons_cons, BI.bigSepL_singleton, owns_whole]; rfl

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t))

/-- The body at any point. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = Pipeline.ΦA spec2 c from rfl, show (dat2 V c).Φ t.castSucc = Pipeline.ΦA spec2 c from rfl,
    show (dat2 V c).owesAt () t.succ = (dat2 V c).owesAt () t.castSucc from rfl, PhiA2_eq,
    after2_0, after2_1, after2_2, after2_3, after2_4, after2_5, after2_6, after2_7, after2_8]
  iintro ⟨⟨⟨⟨HS0, HS1, HS2⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel2 c Set.univ (grid2.coords t) _ _ _ _ _ _ _ _ _ _ _ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [HS0]; · iexact HS0
  isplitl [HS1]; · iexact HS1
  isplitl [HS2]; · iexact HS2
  iintro ⟨H0, H1, H2, H3, H4, H5, H6, H7, H8, HS0, HS1, HS2⟩
  isplitl [HS0 HS1 HS2 HR Hg]
  · isplitr [Hg]
    · isplitr [HR]
      · isplitl [HS0]; · iexact HS0
        isplitl [HS1]; · iexact HS1
        iexact HS2
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point. -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Cert.KernelIdeal.Run

end
-- ==== Proof.RunIdeal.Run.lean ====
/- The run of @main: three calls among stretches of host operations. The contents of every buffer at every boundary, and
   what every final state holds: every buffer of the device memory at the last boundary's contents, every counter at zero. -/
module

public import proofs.«01_k».proof.Proof.RunIdeal.Linear
public import Idealize.ShloMosaic.Lib.Pipeline.RegionsLoop
public import Idealize.ShloMosaic.Lib.Pipeline.FrameSuffix

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's argument arrays. -/
abbrev argRefs : List (Ref sig .tc) := [main_arg0, main_arg1, main_arg2, main_arg3]

/-! ## The host stretches -/

/-- No operation of the stretch allocates a buffer. -/
theorem hostOps0_fresh : (hostOps0 : List (HloOp τ sig (Elt F))).Forall fun op => op.fresh = ∅ := by
  simp only [List.Forall]; repeat' constructor
/-- The reference each of its operations writes, in order. -/
abbrev hostOps0_W : List (Ref sig .tc) := [main_v0, main_v1, main_v2]
theorem hostOps0_writes : (hostOps0 : List (HloOp τ sig (Elt F))).Forall fun op => op.writes ⊆ (hostOps0_W.map (Proc.devRef (τ := τ) .tc)).toFinset :=
  StableHlo.forall_writes_sub_of_map rfl
/-- It writes no argument array. -/
theorem hostOps0_args : ∀ a ∈ argRefs, a ∉ hostOps0_W := ListAll.forall_mem_of_all_decide (by decide +kernel)

/-- No operation of the stretch allocates a buffer. -/
theorem hostOps2_fresh : (hostOps2 : List (HloOp τ sig (Elt F))).Forall fun op => op.fresh = ∅ := by
  simp only [List.Forall]; repeat' constructor
/-- The reference each of its operations writes, in order. -/
abbrev hostOps2_W : List (Ref sig .tc) := [main_v5]
theorem hostOps2_writes : (hostOps2 : List (HloOp τ sig (Elt F))).Forall fun op => op.writes ⊆ (hostOps2_W.map (Proc.devRef (τ := τ) .tc)).toFinset :=
  StableHlo.forall_writes_sub_of_map rfl
/-- It writes no argument array. -/
theorem hostOps2_args : ∀ a ∈ argRefs, a ∉ hostOps2_W := ListAll.forall_mem_of_all_decide (by decide +kernel)

/-- No operation of the stretch allocates a buffer. -/
theorem hostOps3_fresh : (hostOps3 : List (HloOp τ sig (Elt F))).Forall fun op => op.fresh = ∅ := by
  simp only [List.Forall]; repeat' constructor
/-- The reference each of its operations writes, in order. -/
abbrev hostOps3_W : List (Ref sig .tc) := [main_v7, main_v8, main_v9, main_v10, main_v11, main_v12, main_v13]
theorem hostOps3_writes : (hostOps3 : List (HloOp τ sig (Elt F))).Forall fun op => op.writes ⊆ (hostOps3_W.map (Proc.devRef (τ := τ) .tc)).toFinset :=
  StableHlo.forall_writes_sub_of_map rfl
/-- It writes no argument array. -/
theorem hostOps3_args : ∀ a ∈ argRefs, a ∉ hostOps3_W := ListAll.forall_mem_of_all_decide (by decide +kernel)

/-! ## The buffers' contents at each boundary -/

/-- At launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After the stretch of host operations 0. -/
abbrev W1 : Dev nD → Valuation τ sig (Elt F) := fun c => StableHlo.after hostOps0 (W0 m ρ c)
/-- A reference the stretch does not write keeps its contents. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same, read at the TensorCore's references. -/
abbrev V1 : Bufs F := fun c b => W1 m ρ c b
/-- At call 0's exit: its arrays at what the call leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of the call's output arrays keeps its contents across it. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among the call's arrays is an input's. -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same, read at the TensorCore's references. -/
abbrev V2 : Bufs F := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At call 1's exit: its arrays at what the call leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of the call's output arrays keeps its contents across it. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among the call's arrays is an input's. -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same, read at the TensorCore's references. -/
abbrev V3 : Bufs F := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the stretch of host operations 2. -/
abbrev W4 : Dev nD → Valuation τ sig (Elt F) := fun c => StableHlo.after hostOps2 (W3 m ρ c)
/-- A reference the stretch does not write keeps its contents. -/
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
theorem W4_args (c : Dev nD) : ∀ a ∈ argRefs, W4 m ρ c (Proc.devRef .tc a) = m ((c : Thread nD τ).loc a) :=
  fun a ha => (W4_of m ρ c a (hostOps2_args a ha)).trans (W3_args m ρ c a ha)
/-- The same, read at the TensorCore's references. -/
abbrev V4 : Bufs F := fun c b => W4 m ρ c b
/-- At call 2's exit: its arrays at what the call leaves, every other buffer as entered. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
/-- A reference that is none of the call's output arrays keeps its contents across it. -/
theorem W5_of (c : Dev nD) (r : Ref sig .tc) (h : ∀ w : Fin cfg2.W, Pipeline.arrRef spec2 w = r → (cfg2.win w).isOut = false) :
    W5 m ρ c (Proc.devRef .tc r) = W4 m ρ c (Proc.devRef .tc r) := by
  by_cases hw : ∃ w : Fin cfg2.W, Pipeline.arrRef spec2 w = r
  · obtain ⟨w, rfl⟩ := hw
    exact (W5_arr m ρ c w).trans (((dat2 (V4 m ρ) c).arrAt_in w (h w rfl) _).trans (A_eq2 (V4 m ρ) c w))
  · exact W5_of_ne m ρ c r fun w e => hw ⟨w, e⟩
/-- Every argument among the call's arrays is an input's. -/
theorem argsIn2 : ∀ a ∈ argRefs, ∀ w : Fin cfg2.W, Pipeline.arrRef spec2 w = a → (cfg2.win w).isOut = false :=
  ListAll.forall_mem_of_all_decide (by decide +kernel)
theorem W5_args (c : Dev nD) : ∀ a ∈ argRefs, W5 m ρ c (Proc.devRef .tc a) = m ((c : Thread nD τ).loc a) :=
  fun a ha => (W5_of m ρ c a (argsIn2 a ha)).trans (W4_args m ρ c a ha)
/-- The same, read at the TensorCore's references. -/
abbrev V5 : Bufs F := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-- After the stretch of host operations 3. -/
abbrev W6 : Dev nD → Valuation τ sig (Elt F) := fun c => StableHlo.after hostOps3 (W5 m ρ c)
/-- A reference the stretch does not write keeps its contents. -/
theorem W6_of (c : Dev nD) (r : Ref sig .tc) (h : r ∉ hostOps3_W) : W6 m ρ c (Proc.devRef .tc r) = W5 m ρ c (Proc.devRef .tc r) :=
  StableHlo.after_of_writes_sub hostOps3 _ hostOps3_writes h
theorem W6_args (c : Dev nD) : ∀ a ∈ argRefs, W6 m ρ c (Proc.devRef .tc a) = m ((c : Thread nD τ).loc a) :=
  fun a ha => (W6_of m ρ c a (hostOps3_args a ha)).trans (W5_args m ρ c a ha)
/-- The same, read at the TensorCore's references. -/
abbrev V6 : Bufs F := fun c b => W6 m ρ c b
/-- The prefetched tables' admissible contents: no pipeline has a table. -/
abbrev adm : (p : Fin 3) → (pcfgs (F := F) p).Adm := fun p => (cfgs p).toPCfg_adm
/-- Every call's proof data, each at its entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers: the generator register, and nothing owed. -/
abbrev R (c : Dev nD) : sProp 𝕄 := iprop((∃ r, prngReg c r) ∗ ∃ W, owes (c : Thread nD τ) (0 : CellTallies nD τ sig Unit) W)
/-- A stretch of host operations as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every buffer of the device memory at the last boundary's contents, the generator register. -/
abbrev Tₙ (c : Dev nD) : sProp 𝕄 := iprop(StableHlo.held (c : Thread nD τ) (Pipeline.ucRefs τ sig) (W6 m ρ c) ∗ ∃ r, prngReg c r)

set_option backward.isDefEq.respectTransparency.types false in
/-- Call 0 as a segment: entered from every buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment: entered from every buffer at `W2`, left at `W3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 as a segment: entered from every buffer at `W4`, left at `W5`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) (A_eq2 (V4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .region (reg2 m ρ),
    .host (hseg hostOps3 hostOps3_sub hostOps3_fresh (W5 m ρ)) ]
/-- @main is the run of the segments. -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- Every final state of @main's run, from any memory with zero counters, holds every buffer of the device memory at the
    last boundary's contents and every counter at zero. -/
theorem run_all : θ_run defs (onTc (τ := τ) (main (F := F))) ⟨m, fun _ => 0, ρ⟩ (fun r => (∀ c : Dev nD,
      ∀ b ∈ Pipeline.ucRefs τ sig, r.2.mem (((c : Thread nD τ)).1, b) = W6 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨h, funext fun g => hz g (.inr (no_unscoped g.2))⟩)

end Cert.KernelIdeal.Run

end
-- ==== Proof.Value.Spec.lean ====
/-
  The mathematics that both programs compute, written once over the extended reals: the smoothing scale of a column, the
  scale and the integer code of a row, the dequantised product. Both programs' results are shown equal to these functions.
-/
module

public import Idealize.ShloMosaic.Lib.Pointwise

@[expose] public section

noncomputable section

namespace Cert.Value

open Idealize.ShloMosaic

/-- The magnitude of an extended real, as the programs take it. -/
def mag (x : EReal) : EReal := FloatOps.absf (F := Ideal) (φ := .f32) x

/-- The greatest magnitude of a finite family. -/
def amax {n : Nat} (f : Fin n → EReal) : EReal :=
  Finset.univ.fold max (Ideal.ofBits .f32 0xFF800000#32) fun k => mag (f k)

/-- The quantisation scale of a family whose greatest magnitude is `a`: one where that is zero, else `a / 127`. -/
def scale (a : EReal) : EReal := if a = 0 then 1 else Ideal.div a (Ideal.ofBits .f32 0x42FE0000#32)

/-- The code of `v` at scale `s`: `v / s` rounded to the nearest integer, ties to even, and clipped to `[-127, 127]`. -/
def code (v s : EReal) : EReal :=
  min (Ideal.ofBits .f32 0x42FE0000#32)
    (max (Ideal.ofBits .f32 0xC2FE0000#32) (Ideal.liftRound Ideal.roundHalfEven (Ideal.div v s)))

/-- The smoothing scale of a column from the greatest magnitudes of the activations and of the weights. -/
def smooth (a w : EReal) : EReal :=
  Ideal.div (Ideal.sqrt (max a (Ideal.ofBits .f32 0x3727C5AC#32))) (Ideal.sqrt (max w (Ideal.ofBits .f32 0x3727C5AC#32)))

/-- One output before it is requantised. -/
def linear {K : Nat} (q wq : Fin K → EReal) (qs ws b : EReal) : EReal := (∑ d, q d * wq d) * qs * ws + b

/-- The scale of a row of weights `w` under the smoothing scales `s`, and the code of its entry `d`. -/
def wsc {K : Nat} (w s : Fin K → EReal) : EReal := scale (amax fun d => w d * s d)
def wcd {K : Nat} (w s : Fin K → EReal) (d : Fin K) : EReal := code (w d * s d) (wsc w s)

/-- The scale of a row of activations `x` under the smoothing scales `s`, and the code of its entry `d`. -/
def xsc {K : Nat} (x s : Fin K → EReal) : EReal := scale (amax fun d => Ideal.div (x d) (s d))
def xcd {K : Nat} (x s : Fin K → EReal) (d : Fin K) : EReal := code (Ideal.div (x d) (s d)) (xsc x s)

/-- An output of the layer: activation row `x`, smoothing scales `s`, weight row `w`, bias `b`. -/
def zval {K : Nat} (x s w : Fin K → EReal) (b : EReal) : EReal := linear (xcd x s) (wcd w s) (xsc x s) (wsc w s) b

/-- The scale of a row of outputs `z`, and the code of its entry `j`. -/
def zsc {N : Nat} (z : Fin N → EReal) : EReal := scale (amax z)
def zcd {N : Nat} (z : Fin N → EReal) (j : Fin N) : EReal := code (z j) (zsc z)

/-- The pattern of negative infinity denotes the least extended real. -/
theorem bot_f32 : Ideal.ofBits .f32 0xFF800000#32 = ⊥ := by simp [Ideal.ofBits, Ideal.ieee]
theorem bot_bf16 : Ideal.ofBits .bf16 0xFF80#16 = ⊥ := by simp [Ideal.ofBits, Ideal.ieee]

/-- A fold of maxima from negative infinity is below `u` exactly when every member is. -/
theorem fold_le {ι : Type} (s : Finset ι) (f : ι → EReal) (b u : EReal) (hb : b = ⊥) :
    s.fold max b f ≤ u ↔ ∀ k ∈ s, f k ≤ u := by
  subst hb
  rw [Finset.fold_max_le]
  exact ⟨fun h => h.2, fun h => ⟨bot_le, h⟩⟩

/-- The greatest magnitude is below `u` exactly when every magnitude is. -/
theorem amax_le {n : Nat} (f : Fin n → EReal) (u : EReal) : amax f ≤ u ↔ ∀ k, mag (f k) ≤ u := by
  unfold amax
  rw [fold_le _ _ _ _ bot_f32]
  exact ⟨fun h k => h k (Finset.mem_univ k), fun h k _ => h k⟩

/-- Magnitudes are not negative. -/
theorem mag_nonneg (x : EReal) : 0 ≤ mag x := by
  show (0 : EReal) ≤ max x (-x)
  rcases le_total 0 x with h | h
  · exact h.trans (le_max_left _ _)
  · exact (EReal.neg_nonneg.mpr h).trans (le_max_right _ _)

/-- The clipping bounds are the integers 127 and -127. -/
theorem hi_eq : Ideal.ofBits .f32 0x42FE0000#32 = ((127 : ℝ) : EReal) := by
  simp [Ideal.ofBits, Ideal.ieee]; norm_num; rw [← EReal.coe_mul]; norm_num
theorem lo_eq : Ideal.ofBits .f32 0xC2FE0000#32 = ((-127 : ℝ) : EReal) := by
  simp [Ideal.ofBits, Ideal.ieee]; norm_num; rw [← EReal.coe_mul]; norm_num

/-- A code is an integer between -127 and 127. -/
theorem code_int (v s : EReal) : ∃ z : ℤ, -127 ≤ z ∧ z ≤ 127 ∧ code v s = ((z : ℝ) : EReal) := by
  unfold code
  rw [hi_eq, lo_eq]
  induction Ideal.div v s using EReal.rec with
  | bot => exact ⟨-127, by norm_num, by norm_num, by
      rw [Ideal.liftRound_bot, max_eq_left bot_le, min_eq_right (EReal.coe_le_coe_iff.mpr (by norm_num))]; norm_num⟩
  | top => exact ⟨127, by norm_num, by norm_num, by simp⟩
  | coe r =>
    rw [Ideal.liftRound_coe]
    refine ⟨min 127 (max (-127) (Ideal.roundHalfEven r)), by omega, by omega, ?_⟩
    push_cast
    rfl

/-- A code converted to an 8-bit integer and read back is the code: no code is lost by the conversion. -/
theorem code_roundtrip (v s : EReal) : (((Ideal.fptosi 8 (code v s)).toInt : ℝ) : EReal) = code v s := by
  obtain ⟨z, h1, h2, h⟩ := code_int v s
  rw [h]
  have e : Ideal.fptosi 8 ((z : ℝ) : EReal) = BitVec.ofInt 8 z := by
    unfold Ideal.fptosi
    congr 1
    show max _ (min _ (if (0 : ℝ) ≤ (z : ℝ) then ⌊(z : ℝ)⌋ else ⌈(z : ℝ)⌉)) = z
    rw [Int.floor_intCast, Int.ceil_intCast, ite_self]
    norm_num
    omega
  rw [e, BitVec.toInt_ofInt]
  have : z.bmod (2 ^ 8) = z := by
    apply Int.bmod_eq_of_le_mul_two <;> omega
  rw [this]

/-- The lower clamp of the smoothing scale is a positive real. -/
theorem eps_pos : ∃ r : ℝ, 0 < r ∧ Ideal.ofBits .f32 0x3727C5AC#32 = (r : EReal) := by
  refine ⟨(1 * (2 ^ 23 + 2606508 : ℕ) * (2 : ℝ) ^ ((110 : ℤ) - 127 - 23) : ℝ), by positivity, ?_⟩
  simp [Ideal.ofBits, Ideal.ieee]

/-- The exponent is one half. -/
theorem half_eq : Ideal.ofBits .f32 0x3F000000#32 = ((1 / 2 : ℝ) : EReal) := by
  simp [Ideal.ofBits, Ideal.ieee]; norm_num; rw [← EReal.coe_mul]; norm_num

/-- Above the clamp, the power one half is the square root. -/
theorem pow_half (a : EReal) :
    Ideal.pow (max a (Ideal.ofBits .f32 0x3727C5AC#32)) (Ideal.ofBits .f32 0x3F000000#32)
      = Ideal.sqrt (max a (Ideal.ofBits .f32 0x3727C5AC#32)) := by
  obtain ⟨r, hr, e⟩ := eps_pos
  rw [e, half_eq]
  have h : (r : EReal) ≤ max a r := le_max_right _ _
  generalize max a (r : EReal) = b at h
  induction b using EReal.rec with
  | bot => exact absurd h (by simp)
  | top =>
    show (if (0 : EReal) < ((1 / 2 : ℝ) : EReal) then (⊤ : EReal) else _) = ⊤
    rw [if_pos]
    exact_mod_cast (by norm_num : (0 : ℝ) < 1 / 2)
  | coe b =>
    have hb : r ≤ b := EReal.coe_le_coe_iff.mp h
    rw [Ideal.sqrt_coe, if_neg (by linarith)]
    show ((Real.rpow b (1 / 2) : ℝ) : EReal) = _
    rw [Real.sqrt_eq_rpow]
    rfl

/-- The smoothing scale, with the square roots written as powers. -/
theorem smooth_pow (a w : EReal) :
    Ideal.div (Ideal.pow (max a (Ideal.ofBits .f32 0x3727C5AC#32)) (Ideal.ofBits .f32 0x3F000000#32))
      (Ideal.pow (max w (Ideal.ofBits .f32 0x3727C5AC#32)) (Ideal.ofBits .f32 0x3F000000#32)) = smooth a w := by
  rw [pow_half, pow_half]; rfl

/-- The program's chain of operations for a code, read at an index. -/
theorem code_at {S : Shape} (v u : FVec Ideal S .f32) (i : S.Idx) :
    minimumf (broadcast S (Scalar.ofBits .f32 0x42FE0000#32))
      (maximumf (broadcast S (Scalar.ofBits .f32 0xC2FE0000#32)) (roundeven (divf v u))) i = code (v i) (u i) := rfl

/-- The program's chain of operations for a scale, read at an index. -/
theorem scale_at {S : Shape} (v : FVec Ideal S .f32) (i : S.Idx) :
    select (cmpf .oeq v (broadcast S (Scalar.ofBits .f32 0x00000000#32)))
      (broadcast S (Scalar.ofBits .f32 0x3F800000#32)) (divf v (broadcast S (Scalar.ofBits .f32 0x42FE0000#32))) i
      = scale (v i) := by
  unfold scale
  pointwise

end Cert.Value

end
-- ==== Proof.Value.PaySmooth.lean ====
/-
  What the smoothing call's body computes, read at one element.
-/
module

public import proofs.«01_k».proof.Proof.Gen.KernelIdeal.Skeleton
public import proofs.«01_k».proof.Proof.Value.Spec

@[expose] public section

set_option maxRecDepth 16384

noncomputable section

namespace Cert.KernelIdeal.Pay

open Idealize.ShloMosaic Cert.KernelIdeal Cert.KernelIdeal.Gen Cert.Value

/-- The greatest magnitude of a column of one row block. -/
theorem colmax (x : Vec Ideal S512x7168 .bf16) (d : Fin 7168) : k0_pay1 x (ix2 0 d) = amax fun r : Fin 512 => x (ix2 r d) := by
  unfold amax
  rw [bot_f32, ← bot_bf16]
  pointwise [k0_pay1]
  rfl

/-- The first block's running maximum. -/
theorem first (x : Vec Ideal S512x7168 .bf16) (d : Fin 7168) : k0_pay2 x (ix2 0 d) = amax fun r : Fin 512 => x (ix2 r d) := by
  rw [← colmax]
  pointwise [k0_pay2]

/-- A later block's running maximum. -/
theorem next (x : Vec Ideal S512x7168 .bf16) (y : Vec Ideal S1x7168 .bf16) (d : Fin 7168) :
    k0_pay3 x y (ix2 0 d) = max (y (ix2 0 d)) (amax fun r : Fin 512 => x (ix2 r d)) := by
  rw [← colmax]
  pointwise [k0_pay3]

/-- The smoothing scales. -/
theorem scales (y : Vec Ideal S1x7168 .bf16) (w : Vec Ideal S1x7168 .f32) (d : Fin 7168) :
    k0_pay4 y w (ix2 0 d) = smooth (y (ix2 0 d)) (w (ix2 0 d)) := by
  unfold smooth
  pointwise [k0_pay4]

end Cert.KernelIdeal.Pay

end
-- ==== Proof.Value.OutSmooth.lean ====
/-
  What the smoothing call leaves in its output array: the smoothing scale of every column.
-/
module

public import proofs.«01_k».proof.Proof.RunIdeal.Smooth
public import proofs.«01_k».proof.Proof.Value.PaySmooth
public import Idealize.ShloMosaic.Lib.Pipeline.ValueKit

@[expose] public section

set_option maxRecDepth 16384

noncomputable section

namespace Cert.KernelIdeal.Out

open Cert.KernelIdeal Cert.KernelIdeal.Gen Cert.KernelIdeal.Run Cert.Value
open Idealize.ShloMosaic Idealize.ShloMosaic.TcCoe Idealize.ShloMosaic.Tactic

variable (V : Bufs Ideal)

theorem idx0_0 : ∀ t : Fin cfg0.N, win0_0.index t = ![t.val, 0] := (by decide +kernel : ∀ t : Fin grid0.N, win0_0.index t = ![t.val, 0])
theorem idx0_1 : ∀ t : Fin cfg0.N, win0_1.index t = ![0, 0] := (by decide +kernel : ∀ t : Fin grid0.N, win0_1.index t = ![0, 0])

/-- Row `r` of block `t` of the activations is row `512 t + r`. -/
theorem blk0_0 (c : Dev nD) (t : Fin cfg0.N) (r : Fin 512) (d : Fin 7168) (R : Fin 8192) (h : R.val = 512 * t.val + r.val) :
    iblk0 V c 0 t (ix2 r d) = V c main_v0 (ix2 R d) := by
  blk_ext [iblk0, idx0_0 t]

/-- The statistics' block is the whole row. -/
theorem blk0_1 (c : Dev nD) (t : Fin cfg0.N) (d : Fin 7168) :
    iblk0 V c 1 t (ix2 0 d) = V c main_v2 (ix2 0 d) := by
  blk_ext [iblk0, idx0_1 t]

/-- One block's column maximum is below `u` exactly when the block's magnitudes are. -/
theorem blk_le (c : Dev nD) (d : Fin 7168) (u : EReal) (t : Fin cfg0.N) :
    (amax fun r : Fin 512 => iblk0 V c 0 t (ix2 r d)) ≤ u
      ↔ ∀ R : Fin 8192, 512 * t.val ≤ R.val → R.val < 512 * (t.val + 1) → mag (V c main_v0 (ix2 R d)) ≤ u := by
  have ht : t.val < 16 := lt_of_lt_of_eq t.isLt N_0
  rw [amax_le]
  constructor
  · intro h R h1 h2
    rw [← blk0_0 V c t ⟨R.val - 512 * t.val, by omega⟩ d R (by dsimp only; omega)]
    exact h _
  · intro h r
    rw [blk0_0 V c t r d ⟨512 * t.val + r.val, by omega⟩ rfl]
    exact h _ (by dsimp only; omega) (by dsimp only; omega)

/-- The running maximum after point `n` is below `u` exactly when the magnitudes of the rows seen so far are. -/
theorem acc_le (c : Dev nD) (d : Fin 7168) (u : EReal) : ∀ (n : Nat) (hn : n < cfg0.N),
    acc0 V c n hn (ix2 0 d) ≤ u ↔ ∀ R : Fin 8192, R.val < 512 * (n + 1) → mag (V c main_v0 (ix2 R d)) ≤ u
  | 0, hn => by
    rw [show acc0 V c 0 hn = k0_pay2 (iblk0 V c 0 ⟨0, hn⟩) from rfl, Pay.first, blk_le]
    exact ⟨fun h R hR => h R (by simp) hR, fun h R _ hR => h R hR⟩
  | n + 1, hn => by
    rw [show acc0 V c (n + 1) hn = k0_pay3 (iblk0 V c 0 ⟨n + 1, hn⟩) (acc0 V c n (Nat.lt_of_succ_lt hn)) from rfl, Pay.next,
      max_le_iff, blk_le, acc_le c d u n]
    constructor
    · intro h R hR
      by_cases hr : R.val < 512 * (n + 1)
      · exact h.1 R hr
      · exact h.2 R (by dsimp only; omega) hR
    · intro h
      exact ⟨fun R hR => h R (by omega), fun R _ hR => h R hR⟩

/-- The running maximum after the last point is the column's greatest magnitude. -/
theorem acc_last (c : Dev nD) (d : Fin 7168) (n : Nat) (hn : n < cfg0.N) (h : n = 15) :
    acc0 V c n hn (ix2 0 d) = amax fun R : Fin 8192 => V c main_v0 (ix2 R d) := by
  subst h
  refine eq_of_forall_ge_iff fun u => ?_
  rw [acc_le, amax_le]
  exact ⟨fun h R => h R R.isLt, fun h R _ => h R⟩

/-- The smoothing call's output array. -/
theorem smoothed (c : Dev nD) : (dat0 V c).arrAt 2 cfg0.N
    = fun i => smooth (amax fun R : Fin 8192 => V c main_v0 (ix2 R (i 1))) (V c main_v2 (ix2 0 (i 1))) := by
  refine (dat0 V c).arrAt_eq_of_after_last 2 t0_15 (by decide +kernel) _ fun j => ?_
  blk_simp
  rw [after0_2]
  obtain ⟨d, rfl⟩ : ∃ d : Fin 7168, j = ix2 0 d := ⟨j 1, by
    funext a; fin_cases a
    · exact Subsingleton.elim (α := Fin 1) _ _
    · rfl⟩
  exact (Pay.scales _ _ d).trans (congrArg₂ smooth (acc_last V c d _ _ rfl) (blk0_1 V c t0_15 d))

end Cert.KernelIdeal.Out

end
-- ==== Proof.Value.PayWeight.lean ====
/-
  What the weight call's body computes, read at one element.
-/
module

public import proofs.«01_k».proof.Proof.Gen.KernelIdeal.Skeleton
public import proofs.«01_k».proof.Proof.Value.Spec

@[expose] public section

set_option maxRecDepth 16384

noncomputable section

namespace Cert.KernelIdeal.Pay

open Idealize.ShloMosaic Cert.KernelIdeal Cert.KernelIdeal.Gen Cert.Value

/-- A smoothed weight. -/
theorem wprod (w : Vec Ideal S192x7168 .bf16) (s : Vec Ideal S1x7168 .f32) (n : Fin 192) (d : Fin 7168) :
    k1_pay1 w s (ix2 n d) = w (ix2 n d) * s (ix2 0 d) := by
  pointwise [k1_pay1]

/-- The greatest magnitude of a row. -/
theorem wrowmax (v : FVec Ideal S192x7168 .f32) (n : Fin 192) :
    shapeCast S192x1 (multiReduction .maximumf [1] S192 (absf v) 0xFF800000#32 reduces_S192x7168_S192 (.inl rfl) rfl)
      shapeCasts_S192_S192x1 (ix2 n 0) = amax fun d => v (ix2 n d) := by
  unfold amax mag
  pointwise

/-- A column spread over the row. -/
theorem wspread (u : FVec Ideal S192x1 .f32) (n : Fin 192) (d : Fin 7168) :
    broadcastTo S192x7168 u broadcasts_S192x1_S192x7168 (ix2 n d) = u (ix2 n 0) := by pointwise

/-- The scale of a row of smoothed weights. -/
theorem wscale (w : Vec Ideal S192x7168 .bf16) (s : Vec Ideal S1x7168 .f32) (n : Fin 192) :
    k1_pay2 w s (ix2 n 0) = scale (amax fun d : Fin 7168 => w (ix2 n d) * s (ix2 0 d)) :=
  (scale_at _ _).trans (congrArg scale ((wrowmax _ n).trans (congrArg amax (funext fun d => wprod w s n d))))

/-- The code of a smoothed weight. -/
theorem wcode (w : Vec Ideal S192x7168 .bf16) (s : Vec Ideal S1x7168 .f32) (n : Fin 192) (d : Fin 7168) :
    k1_pay3 w s (ix2 n d)
      = code (w (ix2 n d) * s (ix2 0 d)) (scale (amax fun e : Fin 7168 => w (ix2 n e) * s (ix2 0 e))) :=
  (code_at _ _ _).trans (congrArg₂ code (wprod w s n d) ((wspread _ n d).trans (wscale w s n)))

end Cert.KernelIdeal.Pay

end
-- ==== Proof.Value.OutWeight.lean ====
/-
  What the weight call leaves in its output arrays: the codes of the smoothed weights, twice, and the scales of their rows.
-/
module

public import proofs.«01_k».proof.Proof.RunIdeal.Weight
public import proofs.«01_k».proof.Proof.Value.PayWeight
public import Idealize.ShloMosaic.Lib.Pipeline.ValueKit

@[expose] public section

set_option maxRecDepth 16384

noncomputable section

namespace Cert.KernelIdeal.Out

open Cert.KernelIdeal Cert.KernelIdeal.Gen Cert.KernelIdeal.Run Cert.Value
open Idealize.ShloMosaic Idealize.ShloMosaic.TcCoe Idealize.ShloMosaic.Tactic

variable (V : Bufs Ideal)

theorem idx1_0 : ∀ t : Fin cfg1.N, win1_0.index t = ![t.val, 0] := (by decide +kernel : ∀ t : Fin grid1.N, win1_0.index t = ![t.val, 0])
theorem idx1_1 : ∀ t : Fin cfg1.N, win1_1.index t = ![0, 0] := (by decide +kernel : ∀ t : Fin grid1.N, win1_1.index t = ![0, 0])
theorem idx1_2 : ∀ t : Fin cfg1.N, win1_2.index t = ![t.val, 0] := (by decide +kernel : ∀ t : Fin grid1.N, win1_2.index t = ![t.val, 0])
theorem idx1_3 : ∀ t : Fin cfg1.N, win1_3.index t = ![t.val, 0] := (by decide +kernel : ∀ t : Fin grid1.N, win1_3.index t = ![t.val, 0])
theorem idx1_4 : ∀ t : Fin cfg1.N, win1_4.index t = ![t.val, 0] := (by decide +kernel : ∀ t : Fin grid1.N, win1_4.index t = ![t.val, 0])

/-- Row `r` of block `t` of the weights is row `192 t + r`. -/
theorem blk1_0 (c : Dev nD) (t : Fin cfg1.N) (r : Fin 192) (d : Fin 7168) (R : Fin 2112) (h : R.val = 192 * t.val + r.val) :
    iblk1 V c 0 t (ix2 r d) = V c main_v1 (ix2 R d) := by
  blk_ext [iblk1, idx1_0 t]

/-- The smoothing scales' block is the whole row. -/
theorem blk1_1 (c : Dev nD) (t : Fin cfg1.N) (d : Fin 7168) :
    iblk1 V c 1 t (ix2 0 d) = V c main_v3 (ix2 0 d) := by
  blk_ext [iblk1, idx1_1 t]

/-- Row `j` of the weights, and the smoothing scales, as functions. -/
abbrev wrow (c : Dev nD) (j : Fin 2112) : Fin 7168 → EReal := fun d => V c main_v1 (ix2 j d)
abbrev srow (c : Dev nD) : Fin 7168 → EReal := fun d => V c main_v3 (ix2 0 d)

/-- A block's row scale is the row's. -/
theorem wsc_blk (c : Dev nD) (t : Fin cfg1.N) (r : Fin 192) (R : Fin 2112) (h : R.val = 192 * t.val + r.val) :
    k1_pay2 (iblk1 V c 0 t) (iblk1 V c 1 t) (ix2 r 0) = wsc (wrow V c R) (srow V c) := by
  refine (Pay.wscale _ _ r).trans (congrArg scale (congrArg amax (funext fun d => ?_)))
  rw [blk1_0 V c t r d R h, blk1_1]

/-- A block's code is the row's. -/
theorem wcd_blk (c : Dev nD) (t : Fin cfg1.N) (r : Fin 192) (d : Fin 7168) (R : Fin 2112) (h : R.val = 192 * t.val + r.val) :
    k1_pay3 (iblk1 V c 0 t) (iblk1 V c 1 t) (ix2 r d) = wcd (wrow V c R) (srow V c) d := by
  refine (Pay.wcode _ _ r d).trans ?_
  rw [← Pay.wscale, wsc_blk V c t r R h, blk1_0 V c t r d R h, blk1_1]
  rfl

/-- The weight codes. -/
theorem wcodes (c : Dev nD) : (dat1 V c).arrAt 2 cfg1.N
    = fun i => Ideal.fptosi 8 (wcd (wrow V c (i 0)) (srow V c) (i 1)) := by
  refine (dat1 V c).arrAt_eq_of_covers 2 _ (by decide +kernel) fun t hf y => ?_
  blk_simp
  rw [after1_2, out1_2_eq]
  obtain ⟨r, d, rfl⟩ : ∃ (r : Fin 192) (d : Fin 7168), y = ix2 r d := ⟨y 0, y 1, by funext a; fin_cases a <;> rfl⟩
  have e : ((win1_2.blk t).view.emb (ix2 r d)) = ix2 ((win1_2.blk t).view.emb (ix2 r d) 0) d := by blk_ext [idx1_2 t]
  rw [e]
  exact congrArg (Ideal.fptosi 8) (wcd_blk V c t r d _ (by blk_simp [idx1_2 t]; omega))

/-- The weight codes, as the product reads them. -/
theorem wbf (c : Dev nD) : (dat1 V c).arrAt 3 cfg1.N = fun i => wcd (wrow V c (i 0)) (srow V c) (i 1) := by
  refine (dat1 V c).arrAt_eq_of_covers 3 _ (by decide +kernel) fun t hf y => ?_
  blk_simp
  rw [after1_3, out1_3_eq]
  obtain ⟨r, d, rfl⟩ : ∃ (r : Fin 192) (d : Fin 7168), y = ix2 r d := ⟨y 0, y 1, by funext a; fin_cases a <;> rfl⟩
  have e : ((win1_3.blk t).view.emb (ix2 r d)) = ix2 ((win1_3.blk t).view.emb (ix2 r d) 0) d := by blk_ext [idx1_3 t]
  rw [e]
  exact wcd_blk V c t r d _ (by blk_simp [idx1_3 t]; omega)

/-- The weight rows' scales. -/
theorem wscales (c : Dev nD) : (dat1 V c).arrAt 4 cfg1.N = fun i => wsc (wrow V c (i 0)) (srow V c) := by
  refine (dat1 V c).arrAt_eq_of_covers 4 _ (by decide +kernel) fun t hf y => ?_
  blk_simp
  rw [after1_4, out1_4_eq]
  obtain ⟨r, rfl⟩ : ∃ r : Fin 192, y = ix2 r 0 := ⟨y 0, by
    funext a; fin_cases a
    · rfl
    · exact Subsingleton.elim (α := Fin 1) _ _⟩
  exact wsc_blk V c t r _ (by blk_simp [idx1_4 t]; omega)

end Cert.KernelIdeal.Out

end
-- ==== Proof.Value.PayLinear.lean ====
/-
  What the linear call's body computes, read at one element.
-/
module

public import proofs.«01_k».proof.Proof.Gen.KernelIdeal.Skeleton
public import proofs.«01_k».proof.Proof.Value.Spec

@[expose] public section

set_option maxRecDepth 16384

noncomputable section

namespace Cert.KernelIdeal.Pay

open Idealize.ShloMosaic Cert.KernelIdeal Cert.KernelIdeal.Gen Cert.Value

/-- A smoothed activation. -/
theorem xdiv (x : Vec Ideal S32x7168 .bf16) (s : Vec Ideal S1x7168 .f32) (n : Fin 32) (d : Fin 7168) :
    k2_pay1 x s (ix2 n d) = Ideal.div (x (ix2 n d)) (s (ix2 0 d)) := by
  pointwise [k2_pay1]

/-- The greatest magnitude of a row. -/
theorem xrowmax (v : FVec Ideal S32x7168 .f32) (n : Fin 32) :
    shapeCast S32x1 (multiReduction .maximumf [1] S32 (absf v) 0xFF800000#32 reduces_S32x7168_S32 (.inl rfl) rfl)
      shapeCasts_S32_S32x1 (ix2 n 0) = amax fun d => v (ix2 n d) := by
  unfold amax mag
  pointwise

/-- A column spread over the row. -/
theorem xspread (u : FVec Ideal S32x1 .f32) (n : Fin 32) (d : Fin 7168) :
    broadcastTo S32x7168 u broadcasts_S32x1_S32x7168 (ix2 n d) = u (ix2 n 0) := by pointwise

/-- The scale of a row of smoothed activations. -/
theorem xscl (x : Vec Ideal S32x7168 .bf16) (s : Vec Ideal S1x7168 .f32) (n : Fin 32) :
    k2_pay2 x s (ix2 n 0) = scale (amax fun d : Fin 7168 => Ideal.div (x (ix2 n d)) (s (ix2 0 d))) :=
  (scale_at _ _).trans (congrArg scale ((xrowmax _ n).trans (congrArg amax (funext fun d => xdiv x s n d))))

/-- The code of a smoothed activation. -/
theorem xcode (x : Vec Ideal S32x7168 .bf16) (s : Vec Ideal S1x7168 .f32) (n : Fin 32) (d : Fin 7168) :
    k2_pay3 x s (ix2 n d) = code (Ideal.div (x (ix2 n d)) (s (ix2 0 d)))
      (scale (amax fun e : Fin 7168 => Ideal.div (x (ix2 n e)) (s (ix2 0 e)))) :=
  (code_at _ _ _).trans (congrArg₂ code (xdiv x s n d) ((xspread _ n d).trans (xscl x s n)))

/-- The integer code of a smoothed activation. -/
theorem xint (x : Vec Ideal S32x7168 .bf16) (s : Vec Ideal S1x7168 .f32) (n : Fin 32) (d : Fin 7168) :
    k2_pay4 x s (ix2 n d) = Ideal.fptosi 8 (code (Ideal.div (x (ix2 n d)) (s (ix2 0 d)))
      (scale (amax fun e : Fin 7168 => Ideal.div (x (ix2 n e)) (s (ix2 0 e))))) :=
  congrArg (Ideal.fptosi 8) (xcode x s n d)

/-- Narrowing changes nothing. -/
theorem xnarrow (v : FVec Ideal S32x7168 .f32) (n : Fin 32) (d : Fin 7168) :
    shapeCast S32x7168 (truncf .bf16 v bitsLt_bf16_f32) shapeCasts_S32x7168_S32x7168 (ix2 n d) = v (ix2 n d) := by
  pointwise

/-- The code of a smoothed activation, as the product reads it. -/
theorem xbf (x : Vec Ideal S32x7168 .bf16) (s : Vec Ideal S1x7168 .f32) (n : Fin 32) (d : Fin 7168) :
    k2_pay5 x s (ix2 n d) = code (Ideal.div (x (ix2 n d)) (s (ix2 0 d)))
      (scale (amax fun e : Fin 7168 => Ideal.div (x (ix2 n e)) (s (ix2 0 e)))) :=
  (xnarrow _ n d).trans (xcode x s n d)

/-- A column spread over the lanes. -/
theorem xlanes (u : FVec Ideal S32x1 .f32) (n : Fin 32) (l : Fin 128) :
    shapeCast S32x128 (broadcastTo S32x128 (shapeCast S32x1 u shapeCasts_S32x1_S32x1) broadcasts_S32x1_S32x128)
      shapeCasts_S32x128_S32x128 (ix2 n l) = u (ix2 n 0) := by pointwise

/-- The scale of a row, spread over the lanes. -/
theorem xscl_lanes (x : Vec Ideal S32x7168 .bf16) (s : Vec Ideal S1x7168 .f32) (n : Fin 32) (l : Fin 128) :
    k2_pay6 x s (ix2 n l) = scale (amax fun d : Fin 7168 => Ideal.div (x (ix2 n d)) (s (ix2 0 d))) :=
  (xlanes _ n l).trans (xscl x s n)

/-- The scales as a row. -/
theorem srow (v : Vec Ideal S256x128 .f32) (t : Fin 256) : k2_pay7 v (ix2 0 t) = v (ix2 t 0) := by
  pointwise [k2_pay7]

/-- An added leading axis of length one. -/
theorem rowfront (u : FVec Ideal S1x256 .f32) (t : Fin 256) :
    shapeCast S1x1x256 u shapeCasts_S1x256_S1x1x256 (ix3 0 0 t) = u (ix2 0 t) := by pointwise

/-- The scales as they leave the call. -/
theorem srow3 (v : Vec Ideal S256x128 .f32) (t : Fin 256) : k2_pay8 v (ix3 0 0 t) = v (ix2 t 0) :=
  (rowfront _ t).trans (srow v t)

/-- The running maximum starts at zero. -/
theorem zero (t : Fin 256) : k2_pay9 (F := Ideal) (ix2 0 t) = 0 := by
  pointwise [k2_pay9]

/-- The product of weight rows and activation rows. -/
theorem prod (w : FVec Ideal S352x7168 .bf16) (q : FVec Ideal S256x7168 .bf16) (j : Fin 352) (t : Fin 256) :
    matmul dot_S352x7168_S256x7168_S352x256_1_1_0_0_n_n none (shapeCast S352x7168 w shapeCasts_S352x7168_S352x7168) q
        (constant (F := Ideal) S352x256 .f32 0x00000000#32) (ix2 j t)
      = ∑ d : Fin 7168, (q (ix2 t d) : EReal) * (w (ix2 j d) : EReal) := by
  pointwise
  exact Finset.sum_congr rfl fun d _ => mul_comm _ _

/-- A row spread over the columns. -/
theorem rowspread (u : FVec Ideal S1x256 .f32) (j : Fin 352) (t : Fin 256) :
    broadcastTo S352x256 u broadcasts_S1x256_S352x256 (ix2 j t) = u (ix2 0 t) := by pointwise

/-- A column spread over the rows. -/
theorem colspread (u : Vec Ideal S352x1 .f32) (j : Fin 352) (t : Fin 256) :
    broadcastTo S352x256 (shapeCast S352x1 u shapeCasts_S352x1_S352x1) broadcasts_S352x1_S352x256 (ix2 j t) = u (ix2 j 0) := by
  pointwise

/-- The dequantisation, read at an index. -/
theorem affine_at {S : Shape} (a b c d : FVec Ideal S .f32) (i : S.Idx) :
    addf (mulf (mulf a b) c) d i = a i * b i * c i + d i := rfl

/-- An output before it is requantised. -/
theorem lin (v1 : Vec Ideal S256x128 .f32) (w : Vec Ideal S352x7168 .bf16) (q : Vec Ideal S256x7168 .bf16)
    (ws b : Vec Ideal S352x1 .f32) (j : Fin 352) (t : Fin 256) :
    k2_pay10 v1 w q ws b (ix2 j t) = linear (fun d : Fin 7168 => q (ix2 t d)) (fun d : Fin 7168 => w (ix2 j d))
      (v1 (ix2 t 0)) (ws (ix2 j 0)) (b (ix2 j 0)) := by
  refine (affine_at _ _ _ _ _).trans ?_
  rw [prod, rowspread, colspread, colspread, srow]
  rfl

/-- An output before it is requantised, as it is stored. -/
theorem lin_st (v1 : Vec Ideal S256x128 .f32) (w : Vec Ideal S352x7168 .bf16) (q : Vec Ideal S256x7168 .bf16)
    (ws b : Vec Ideal S352x1 .f32) (j : Fin 352) (t : Fin 256) :
    k2_pay11 v1 w q ws b (ix2 j t) = k2_pay10 v1 w q ws b (ix2 j t) := by
  pointwise [k2_pay11]

/-- The greatest magnitude of a column. -/
theorem zcolmax (v : FVec Ideal S352x256 .f32) (t : Fin 256) :
    shapeCast S1x256 (multiReduction .maximumf [0] S256 (absf v) 0xFF800000#32 reduces_S352x256_S256 (.inl rfl) rfl)
      shapeCasts_S256_S1x256 (ix2 0 t) = amax fun j => v (ix2 j t) := by
  unfold amax mag
  pointwise

/-- The running maximum of a column after one more block of outputs. -/
theorem zstep (v1 : Vec Ideal S256x128 .f32) (a : FVec Ideal S1x256 .f32) (w : Vec Ideal S352x7168 .bf16)
    (q : Vec Ideal S256x7168 .bf16) (ws b : Vec Ideal S352x1 .f32) (t : Fin 256) :
    k2_pay12 v1 a w q ws b (ix2 0 t) = max (a (ix2 0 t)) (amax fun j : Fin 352 => k2_pay10 v1 w q ws b (ix2 j t)) := by
  rw [← zcolmax]
  rfl

/-- The scale of a column. -/
theorem zscl (a : FVec Ideal S1x256 .f32) (t : Fin 256) : k2_pay13 a (ix2 0 t) = scale (a (ix2 0 t)) := scale_at _ _

/-- The scale of a column as it leaves the call. -/
theorem zscl3 (a : FVec Ideal S1x256 .f32) (t : Fin 256) : k2_pay14 a (ix3 0 0 t) = scale (a (ix2 0 t)) :=
  (rowfront _ t).trans (zscl a t)

/-- An added leading axis of length one. -/
theorem zfront (v : IVec S352x256 8) (j : Fin 352) (t : Fin 256) :
    shapeCast S1x352x256 v shapeCasts_S352x256_S1x352x256 (ix3 0 j t) = v (ix2 j t) := by pointwise

/-- The code of an output. -/
theorem zcode (a : FVec Ideal S1x256 .f32) (z : FVec Ideal S352x256 .f32) (j : Fin 352) (t : Fin 256) :
    minimumf (broadcast S352x256 (Scalar.ofBits .f32 0x42FE0000#32))
      (maximumf (broadcast S352x256 (Scalar.ofBits .f32 0xC2FE0000#32)) (roundeven
        (divf z (broadcastTo S352x256 (k2_pay13 a) broadcasts_S1x256_S352x256)))) (ix2 j t)
      = code (z (ix2 j t)) (scale (a (ix2 0 t))) :=
  (code_at _ _ _).trans (congrArg (code (z (ix2 j t))) ((rowspread _ j t).trans (zscl a t)))

/-- The integer code of an output. -/
theorem zint (a : FVec Ideal S1x256 .f32) (z : Vec Ideal S352x256 .f32) (j : Fin 352) (t : Fin 256) :
    k2_pay15 a z (ix3 0 j t) = Ideal.fptosi 8 (code (z (ix2 j t)) (scale (a (ix2 0 t)))) := by
  rw [← zcode]
  unfold k2_pay15
  exact zfront _ j t

end Cert.KernelIdeal.Pay

end
-- ==== Proof.Value.TileLinear.lean ====
/-
  What the linear call's three loops leave in their buffers, read at one element.
-/
module

public import proofs.«01_k».proof.Proof.RunIdeal.Linear
public import proofs.«01_k».proof.Proof.Value.PayLinear
public import Idealize.ShloMosaic.Lib.Pipeline.ValueKit

@[expose] public section

set_option maxRecDepth 16384

noncomputable section

namespace Cert.KernelIdeal.Out

open Cert.KernelIdeal Cert.KernelIdeal.Gen Cert.KernelIdeal.Run Cert.Value
open Idealize.ShloMosaic Idealize.ShloMosaic.TcCoe Idealize.ShloMosaic.Tactic Idealize.ShloMosaic.Pipeline

/-- Where an element of a block lies: `n k` further along the blocked axis. -/
theorem emb_tile {S : Shape} {N : Nat} {off : Fin N → Fin S.rank → Nat} {size : Fin S.rank → Nat} {a : Fin S.rank} {n : Nat}
    (hB : Blocks S N off size a n) (inb : ∀ k b, off k b + size b ≤ S.size b) (k : Fin N)
    (x : (Rect.unit (off k) size (inb k)).shape.Idx) (y : S.Idx) (ha : (y a).val = n * k.val + (x a).val)
    (hb : ∀ b, b ≠ a → (y b).val = (x b).val) : (Rect.unit (off k) size (inb k)).emb x = y := by
  funext b
  refine Fin.ext ((ValueKit.rect_emb_unit_val _ _ _ _ _).trans ?_)
  by_cases h : b = a
  · subst h; rw [hB.offa, ha]
  · rw [hB.offb k b h, hb b h, Nat.zero_add]

theorem emb1 (k : Fin k2_t1_loop.trips) (r : Fin 32) (d : Fin 7168) (R : Fin 256) (h : R.val = 32 * k.val + r.val) :
    (R1 k).emb (ix2 r d) = ix2 R d :=
  emb_tile blocks1 k2_off1_inb k _ _ h fun b hb => by fin_cases b; exact absurd rfl hb; rfl
theorem emb2 (k : Fin k2_t1_loop.trips) (r : Fin 32) (d : Fin 128) (R : Fin 256) (h : R.val = 32 * k.val + r.val) :
    (R2 k).emb (ix2 r d) = ix2 R d :=
  emb_tile blocks2 k2_off2_inb k _ _ h fun b hb => by fin_cases b; exact absurd rfl hb; rfl
theorem emb3 (k : Fin k2_t2_loop.trips) (r : Fin 352) (d : Fin 7168) (R : Fin 2112) (h : R.val = 352 * k.val + r.val) :
    (R3 k).emb (ix2 r d) = ix2 R d :=
  emb_tile blocks3 k2_off3_inb k _ _ h fun b hb => by fin_cases b; exact absurd rfl hb; rfl
theorem emb4 (k : Fin k2_t2_loop.trips) (r : Fin 352) (d : Fin 1) (R : Fin 2112) (h : R.val = 352 * k.val + r.val) :
    (R4 k).emb (ix2 r d) = ix2 R d :=
  emb_tile blocks4 k2_off4_inb k _ _ h fun b hb => by fin_cases b; exact absurd rfl hb; rfl
theorem emb5 (k : Fin k2_t2_loop.trips) (r : Fin 352) (t : Fin 256) (R : Fin 2112) (h : R.val = 352 * k.val + r.val) :
    (R5 k).emb (ix2 r t) = ix2 R t :=
  emb_tile blocks5 k2_off5_inb k _ _ h fun b hb => by fin_cases b; exact absurd rfl hb; rfl
theorem emb6 (k : Fin k2_t3_loop.trips) (r : Fin 352) (t : Fin 256) (R : Fin 2112) (h : R.val = 352 * k.val + r.val) :
    (R6 k).emb (ix2 r t) = ix2 R t :=
  emb_tile blocks6 k2_off6_inb k _ _ h fun b hb => by fin_cases b; exact absurd rfl hb; rfl
theorem emb7 (k : Fin k2_t3_loop.trips) (r : Fin 352) (t : Fin 256) (R : Fin 2112) (h : R.val = 352 * k.val + r.val) :
    (R7 k).emb (ix3 0 r t) = ix3 0 R t :=
  emb_tile blocks7 k2_off7_inb k _ _ h fun b hb => by fin_cases b; rfl; exact absurd rfl hb; rfl

/-- Every row of 256 lies in one of eight blocks of 32. -/
theorem split32 (R : Fin 256) : ∃ (k : Fin k2_t1_loop.trips) (r : Fin 32), R.val = 32 * k.val + r.val :=
  ⟨⟨R.val / 32, by rw [trips1]; omega⟩, ⟨R.val % 32, by omega⟩, by dsimp only; omega⟩
/-- Every output column of 2112 lies in one of six blocks of 352. -/
theorem split352 (R : Fin 2112) : ∃ (k : Fin k2_t2_loop.trips) (r : Fin 352), R.val = 352 * k.val + r.val :=
  ⟨⟨R.val / 352, by rw [trips2]; omega⟩, ⟨R.val % 352, by omega⟩, by dsimp only; omega⟩
theorem split352' (R : Fin 2112) : ∃ (k : Fin k2_t3_loop.trips) (r : Fin 352), R.val = 352 * k.val + r.val :=
  ⟨⟨R.val / 352, by rw [trips3]; omega⟩, ⟨R.val % 352, by omega⟩, by dsimp only; omega⟩

/-- A row of a matrix over the extended reals, as a function. -/
abbrev row {m n : Nat} (x : (⟨2, ![m, n]⟩ : Shape).Idx → EReal) (R : Fin m) : Fin n → EReal := fun d => x (ix2 R d)

section First

variable (x0 : Vec Ideal S256x7168 .bf16) (x1 : Vec Ideal S1x7168 .f32)

/-- A row of a block is the row of the whole. -/
theorem row_ld (k : Fin k2_t1_loop.trips) (r : Fin 32) (R : Fin 256) (h : R.val = 32 * k.val + r.val) (d : Fin 7168) :
    View.ld x0 (R1 k) (ix2 r d) = x0 (ix2 R d) := congrArg x0 (emb1 k r d R h)

/-- The scale of a row of a block is that of the row of the whole. -/
theorem xsc_ld (k : Fin k2_t1_loop.trips) (r : Fin 32) (R : Fin 256) (h : R.val = 32 * k.val + r.val) :
    scale (amax fun d : Fin 7168 => Ideal.div (View.ld x0 (R1 k) (ix2 r d)) (x1 (ix2 0 d))) = xsc (row x0 R) (row x1 0) :=
  congrArg scale (congrArg amax (funext fun d => congrArg (Ideal.div · _) (row_ld x0 k r R h d)))

/-- The code of an element of a block is that of the element of the whole. -/
theorem xcd_ld (k : Fin k2_t1_loop.trips) (r : Fin 32) (R : Fin 256) (h : R.val = 32 * k.val + r.val) (d : Fin 7168) :
    code (Ideal.div (View.ld x0 (R1 k) (ix2 r d)) (x1 (ix2 0 d)))
      (scale (amax fun d : Fin 7168 => Ideal.div (View.ld x0 (R1 k) (ix2 r d)) (x1 (ix2 0 d)))) = xcd (row x0 R) (row x1 0) d :=
  congrArg₂ code (congrArg (Ideal.div · _) (row_ld x0 k r R h d)) (xsc_ld x0 x1 k r R h)

/-- The integer codes of the activations. -/
theorem xcodes_at (R : Fin 256) (d : Fin 7168) :
    xcodes x0 x1 (ix2 R d) = Ideal.fptosi 8 (xcd (row x0 R) (row x1 0) d) := by
  obtain ⟨k, r, h⟩ := split32 R
  rw [← emb1 k r d R h]
  exact (filled_emb blocks1 k2_off1_inb _ k _).trans
    ((Pay.xint _ _ r d).trans (congrArg (Ideal.fptosi 8) (xcd_ld x0 x1 k r R h d)))

/-- The codes of the activations, as the product reads them. -/
theorem xquant_at (R : Fin 256) (d : Fin 7168) : xquant x0 x1 (ix2 R d) = xcd (row x0 R) (row x1 0) d := by
  obtain ⟨k, r, h⟩ := split32 R
  rw [← emb1 k r d R h]
  exact (filled_emb blocks1 k2_off1_inb _ k _).trans ((Pay.xbf _ _ r d).trans (xcd_ld x0 x1 k r R h d))

/-- The scales of the activations. -/
theorem xscale_at (R : Fin 256) (l : Fin 128) : xscale x0 x1 (ix2 R l) = xsc (row x0 R) (row x1 0) := by
  obtain ⟨k, r, h⟩ := split32 R
  rw [← emb2 k r l R h]
  exact (filled_emb blocks2 k2_off2_inb _ k _).trans ((Pay.xscl_lanes _ _ r l).trans (xsc_ld x0 x1 k r R h))

end First

section Second

variable (v1 : Vec Ideal S256x128 .f32) (q : Vec Ideal S256x7168 .bf16) (x2 : Vec Ideal S2112x7168 .bf16)
  (x3 x4 : Vec Ideal S2112x1 .f32)

/-- The output of column `j` at row `t`, from the loop's operands. -/
def zof (t : Fin 256) (j : Fin 2112) : EReal := linear (row q t) (row x2 j) (v1 (ix2 t 0)) (x3 (ix2 j 0)) (x4 (ix2 j 0))

/-- An output of a block is the output of the whole. -/
theorem zof_ld (k : Fin k2_t2_loop.trips) (r : Fin 352) (j : Fin 2112) (h : j.val = 352 * k.val + r.val) (t : Fin 256) :
    k2_pay10 v1 (View.ld x2 (R3 k)) q (View.ld x3 (R4 k)) (View.ld x4 (R4 k)) (ix2 r t) = zof v1 q x2 x3 x4 t j := by
  refine (Pay.lin _ _ _ _ _ r t).trans ?_
  have e2 : (fun d : Fin 7168 => (View.ld x2 (R3 k) (ix2 r d) : EReal)) = row x2 j :=
    funext fun d => congrArg x2 (emb3 k r d j h)
  have e3 : View.ld x3 (R4 k) (ix2 r 0) = x3 (ix2 j 0) := congrArg x3 (emb4 k r 0 j h)
  have e4 : View.ld x4 (R4 k) (ix2 r 0) = x4 (ix2 j 0) := congrArg x4 (emb4 k r 0 j h)
  unfold zof
  rw [e3, e4]
  exact congrArg (fun w => linear (row q t) w _ _ _) e2

/-- The outputs. -/
theorem zout_at (j : Fin 2112) (t : Fin 256) : zout v1 q x2 x3 x4 (ix2 j t) = zof v1 q x2 x3 x4 t j := by
  obtain ⟨k, r, h⟩ := split352 j
  rw [← emb5 k r t j h]
  exact (filled_emb blocks5 k2_off5_inb _ k _).trans ((Pay.lin_st _ _ _ _ _ r t).trans (zof_ld v1 q x2 x3 x4 k r j h t))

/-- The running maximum before trip `n` is below `u` exactly when zero and the magnitudes of the columns seen so far are. -/
theorem zmax_le (t : Fin 256) (u : EReal) : ∀ n : Nat, n ≤ 6 →
    (zmax v1 q x2 x3 x4 n (ix2 0 t) ≤ u ↔ 0 ≤ u ∧ ∀ j : Fin 2112, j.val < 352 * n → mag (zof v1 q x2 x3 x4 t j) ≤ u)
  | 0, _ => by
    rw [show zmax v1 q x2 x3 x4 0 = k2_pay9 from rfl, Pay.zero]
    exact ⟨fun h => ⟨h, fun j hj => absurd hj (by omega)⟩, fun h => h.1⟩
  | n + 1, hn => by
    have hk : n < k2_t2_loop.trips := by rw [trips2]; omega
    rw [zmax_succ v1 q x2 x3 x4 ⟨n, hk⟩, Pay.zstep, max_le_iff, zmax_le t u n (by omega), amax_le]
    constructor
    · rintro ⟨⟨h0, h1⟩, h2⟩
      refine ⟨h0, fun j hj => ?_⟩
      by_cases hj' : j.val < 352 * n
      · exact h1 j hj'
      · rw [← zof_ld v1 q x2 x3 x4 ⟨n, hk⟩ ⟨j.val - 352 * n, by omega⟩ j (by dsimp only; omega) t]
        exact h2 _
    · rintro ⟨h0, h1⟩
      refine ⟨⟨h0, fun j hj => h1 j (by omega)⟩, fun r => ?_⟩
      rw [zof_ld v1 q x2 x3 x4 ⟨n, hk⟩ r ⟨352 * n + r.val, by omega⟩ rfl t]
      exact h1 _ (by show 352 * n + r.val < _; omega)

/-- The running maximum after the loop is the row's greatest magnitude. -/
theorem zmax_last (t : Fin 256) : zmax v1 q x2 x3 x4 k2_t2_loop.trips (ix2 0 t) = amax (zof v1 q x2 x3 x4 t) := by
  refine eq_of_forall_ge_iff fun u => ?_
  rw [trips2, zmax_le _ _ _ _ _ _ _ 6 (le_refl _), amax_le]
  exact ⟨fun h j => h.2 j j.isLt, fun h => ⟨(mag_nonneg _).trans (h 0), fun j _ => h j⟩⟩

end Second

/-- The integer codes of the outputs. -/
theorem zcodes_at (v9 : FVec Ideal S1x256 .f32) (z : Vec Ideal S2112x256 .f32) (j : Fin 2112) (t : Fin 256) :
    zcodes v9 z (ix3 0 j t) = Ideal.fptosi 8 (code (z (ix2 j t)) (scale (v9 (ix2 0 t)))) := by
  obtain ⟨k, r, h⟩ := split352' j
  rw [← emb7 k r t j h]
  refine (filled_emb blocks7 k2_off7_inb _ k _).trans ((Pay.zint _ _ r t).trans ?_)
  exact congrArg (fun e => Ideal.fptosi 8 (code e _)) (congrArg z (emb6 k r t j h))

/-! ## The call's block results -/

section Block

variable (x0 : Vec Ideal S256x7168 .bf16) (x1 : Vec Ideal S1x7168 .f32) (x2 : Vec Ideal S2112x7168 .bf16)
  (x3 x4 : Vec Ideal S2112x1 .f32)

/-- The outputs of row `t` from the call's blocks. -/
def zblk (t : Fin 256) (j : Fin 2112) : EReal :=
  linear (xcd (row x0 t) (row x1 0)) (row x2 j) (xsc (row x0 t) (row x1 0)) (x3 (ix2 j 0)) (x4 (ix2 j 0))

theorem zof_blk (t : Fin 256) (j : Fin 2112) :
    zof (xscale x0 x1) (xquant x0 x1) x2 x3 x4 t j = zblk x0 x1 x2 x3 x4 t j := by
  have e1 : row (xquant x0 x1) t = xcd (row x0 t) (row x1 0) := funext fun d => xquant_at x0 x1 t d
  have e2 : (xscale x0 x1 (ix2 t 0) : EReal) = xsc (row x0 t) (row x1 0) := xscale_at x0 x1 t 0
  exact congrArg₂ (fun w u => linear w (row x2 j) u (x3 (ix2 j 0)) (x4 (ix2 j 0))) e1 e2

/-- The row's greatest output. -/
theorem out2_m_at (t : Fin 256) : out2_m x0 x1 x2 x3 x4 (ix2 0 t) = amax (zblk x0 x1 x2 x3 x4 t) :=
  (zmax_last (xscale x0 x1) (xquant x0 x1) x2 x3 x4 t).trans (congrArg amax (funext fun j => zof_blk x0 x1 x2 x3 x4 t j))

/-- The outputs. -/
theorem out2_z_at (j : Fin 2112) (t : Fin 256) : out2_z x0 x1 x2 x3 x4 (ix2 j t) = zblk x0 x1 x2 x3 x4 t j :=
  (zout_at (xscale x0 x1) (xquant x0 x1) x2 x3 x4 j t).trans (zof_blk x0 x1 x2 x3 x4 t j)

/-- The scales of the output rows. -/
theorem out2_6_at (t : Fin 256) : out2_6 x0 x1 x2 x3 x4 (ix3 0 0 t) = zsc (zblk x0 x1 x2 x3 x4 t) :=
  (Pay.zscl3 (out2_m x0 x1 x2 x3 x4) t).trans (congrArg scale (out2_m_at x0 x1 x2 x3 x4 t))

/-- The integer codes of the outputs. -/
theorem out2_5_at (j : Fin 2112) (t : Fin 256) :
    out2_5 x0 x1 x2 x3 x4 (ix3 0 j t) = Ideal.fptosi 8 (zcd (zblk x0 x1 x2 x3 x4 t) j) :=
  (zcodes_at (out2_m x0 x1 x2 x3 x4) (out2_z x0 x1 x2 x3 x4) j t).trans
    (congrArg (Ideal.fptosi 8) (congrArg₂ code (out2_z_at x0 x1 x2 x3 x4 j t) (congrArg scale (out2_m_at x0 x1 x2 x3 x4 t))))

end Block

end Cert.KernelIdeal.Out

end
-- ==== Proof.Value.OutLinear.lean ====
/-
  What the linear call leaves in its output arrays: the codes and scales of the outputs and of the activations.
-/
module

public import proofs.«01_k».proof.Proof.Value.TileLinear

@[expose] public section

set_option maxRecDepth 16384

noncomputable section

namespace Cert.KernelIdeal.Out

open Cert.KernelIdeal Cert.KernelIdeal.Gen Cert.KernelIdeal.Run Cert.Value
open Idealize.ShloMosaic Idealize.ShloMosaic.TcCoe Idealize.ShloMosaic.Tactic

variable (V : Bufs Ideal)

theorem idx2_0 : ∀ t : Fin cfg2.N, win2_0.index t = ![t.val, 0] := (by decide +kernel : ∀ t : Fin grid2.N, win2_0.index t = ![t.val, 0])
theorem idx2_1 : ∀ t : Fin cfg2.N, win2_1.index t = ![0, 0] := (by decide +kernel : ∀ t : Fin grid2.N, win2_1.index t = ![0, 0])
theorem idx2_2 : ∀ t : Fin cfg2.N, win2_2.index t = ![0, 0] := (by decide +kernel : ∀ t : Fin grid2.N, win2_2.index t = ![0, 0])
theorem idx2_3 : ∀ t : Fin cfg2.N, win2_3.index t = ![0, 0] := (by decide +kernel : ∀ t : Fin grid2.N, win2_3.index t = ![0, 0])
theorem idx2_4 : ∀ t : Fin cfg2.N, win2_4.index t = ![0, 0] := (by decide +kernel : ∀ t : Fin grid2.N, win2_4.index t = ![0, 0])
theorem idx2_5 : ∀ t : Fin cfg2.N, win2_5.index t = ![t.val / 2, 0, t.val % 2] := (by decide +kernel : ∀ t : Fin grid2.N, win2_5.index t = ![t.val / 2, 0, t.val % 2])
theorem idx2_6 : ∀ t : Fin cfg2.N, win2_6.index t = ![t.val, 0, 0] := (by decide +kernel : ∀ t : Fin grid2.N, win2_6.index t = ![t.val, 0, 0])
theorem idx2_7 : ∀ t : Fin cfg2.N, win2_7.index t = ![t.val, 0] := (by decide +kernel : ∀ t : Fin grid2.N, win2_7.index t = ![t.val, 0])
theorem idx2_8 : ∀ t : Fin cfg2.N, win2_8.index t = ![t.val, 0, 0] := (by decide +kernel : ∀ t : Fin grid2.N, win2_8.index t = ![t.val, 0, 0])

/-- Row `r` of block `t` of the activations is row `256 t + r`. -/
theorem blk2_0 (c : Dev nD) (t : Fin cfg2.N) (r : Fin 256) (d : Fin 7168) (R : Fin 8192) (h : R.val = 256 * t.val + r.val) :
    iblk2 V c 0 t (ix2 r d) = V c main_v0 (ix2 R d) := by
  blk_ext [iblk2, idx2_0 t]

/-- The other operands' blocks are the whole arrays. -/
theorem blk2_1 (c : Dev nD) (t : Fin cfg2.N) (d : Fin 7168) : iblk2 V c 1 t (ix2 0 d) = V c main_v3 (ix2 0 d) := by
  blk_ext [iblk2, idx2_1 t]
theorem blk2_2 (c : Dev nD) (t : Fin cfg2.N) (j : Fin 2112) (d : Fin 7168) : iblk2 V c 2 t (ix2 j d) = V c main_v4_1 (ix2 j d) := by
  blk_ext [iblk2, idx2_2 t]
theorem blk2_3 (c : Dev nD) (t : Fin cfg2.N) (j : Fin 2112) : iblk2 V c 3 t (ix2 j 0) = V c main_v4_2 (ix2 j 0) := by
  blk_ext [iblk2, idx2_3 t]
theorem blk2_4 (c : Dev nD) (t : Fin cfg2.N) (j : Fin 2112) : iblk2 V c 4 t (ix2 j 0) = V c main_v5 (ix2 j 0) := by
  blk_ext [iblk2, idx2_4 t]

/-- A token's place: batch `a` and position `b`, or block `a` of 256 and row `b`. -/
abbrev tok16 (a : Fin 16) (b : Fin 512) : Fin 8192 := ⟨512 * a.val + b.val, by omega⟩
abbrev tok32 (a : Fin 32) (b : Fin 256) : Fin 8192 := ⟨256 * a.val + b.val, by omega⟩

/-- A grid point is one of 32. -/
theorem blk32 (t : Fin cfg2.N) : ∃ a : Fin 32, a.val = t.val := ⟨⟨t.val, t.isLt.trans_le (le_of_eq N_2)⟩, rfl⟩

/-- The smoothing scales, and the operands' rows, as functions. -/
abbrev sRow (c : Dev nD) : Fin 7168 → EReal := fun d => V c main_v3 (ix2 0 d)
abbrev xRow (c : Dev nD) (T : Fin 8192) : Fin 7168 → EReal := fun d => V c main_v0 (ix2 T d)
abbrev wqRow (c : Dev nD) (j : Fin 2112) : Fin 7168 → EReal := fun d => V c main_v4_1 (ix2 j d)

/-- The output row of token `T`. -/
def zRow (c : Dev nD) (T : Fin 8192) (j : Fin 2112) : EReal :=
  linear (xcd (xRow V c T) (sRow V c)) (wqRow V c j) (xsc (xRow V c T) (sRow V c)) (V c main_v4_2 (ix2 j 0)) (V c main_v5 (ix2 j 0))

theorem row_x (c : Dev nD) (t : Fin cfg2.N) (r : Fin 256) (R : Fin 8192) (h : R.val = 256 * t.val + r.val) :
    row (iblk2 V c 0 t) r = xRow V c R := funext fun d => blk2_0 V c t r d R h
theorem row_s (c : Dev nD) (t : Fin cfg2.N) : row (iblk2 V c 1 t) 0 = sRow V c := funext fun d => blk2_1 V c t d
theorem row_w (c : Dev nD) (t : Fin cfg2.N) (j : Fin 2112) : row (iblk2 V c 2 t) j = wqRow V c j := funext fun d => blk2_2 V c t j d

theorem row_z (c : Dev nD) (t : Fin cfg2.N) (r : Fin 256) (R : Fin 8192) (h : R.val = 256 * t.val + r.val) :
    zblk (iblk2 V c 0 t) (iblk2 V c 1 t) (iblk2 V c 2 t) (iblk2 V c 3 t) (iblk2 V c 4 t) r = zRow V c R := by
  funext j
  unfold zblk zRow
  rw [row_x V c t r R h, row_s, row_w, blk2_3, blk2_4]

/-- The activations' codes. -/
theorem xcodes_arr (c : Dev nD) : (dat2 V c).arrAt 7 cfg2.N
    = fun i => Ideal.fptosi 8 (xcd (xRow V c (i 0)) (sRow V c) (i 1)) := by
  refine (dat2 V c).arrAt_eq_of_covers 7 _ (by decide +kernel) fun t hf y => ?_
  blk_simp
  rw [after2_7]
  obtain ⟨r, d, rfl⟩ : ∃ (r : Fin 256) (d : Fin 7168), y = ix2 r d := ⟨y 0, y 1, by funext a; fin_cases a <;> rfl⟩
  have e : ((win2_7.blk t).view.emb (ix2 r d)) = ix2 ((win2_7.blk t).view.emb (ix2 r d) 0) d := by blk_ext [idx2_7 t]
  rw [e, xcodes_at, row_s, row_x V c t r ((win2_7.blk t).view.emb (ix2 r d) 0) (by blk_simp [idx2_7 t]; omega)]
  rfl

/-- The activations' scales. -/
theorem xscales_arr (c : Dev nD) : (dat2 V c).arrAt 8 cfg2.N
    = fun i => xsc (xRow V c (tok32 (i 0) (i 2))) (sRow V c) := by
  refine (dat2 V c).arrAt_eq_of_covers 8 _ (by decide +kernel) fun t hf y => ?_
  blk_simp
  rw [after2_8]
  obtain ⟨r, rfl⟩ : ∃ r : Fin 256, y = ix3 0 0 r := ⟨y 2, by
    funext a; fin_cases a
    · exact Subsingleton.elim (α := Fin 1) _ _
    · exact Subsingleton.elim (α := Fin 1) _ _
    · rfl⟩
  obtain ⟨a, ha⟩ := blk32 t
  have e : ((win2_8.blk t).view.emb (ix3 0 0 r)) = ix3 a 0 r := by blk_ext [idx2_8 t]
  rw [e, Pay.srow3, xscale_at, row_s, row_x V c t r (tok32 a r) (by show 256 * a.val + r.val = _; omega)]
  rfl

/-- The outputs' scales. -/
theorem zscales_arr (c : Dev nD) : (dat2 V c).arrAt 6 cfg2.N = fun i => zsc (zRow V c (tok32 (i 0) (i 2))) := by
  refine (dat2 V c).arrAt_eq_of_covers 6 _ (by decide +kernel) fun t hf y => ?_
  blk_simp
  rw [after2_6]
  obtain ⟨r, rfl⟩ : ∃ r : Fin 256, y = ix3 0 0 r := ⟨y 2, by
    funext a; fin_cases a
    · exact Subsingleton.elim (α := Fin 1) _ _
    · exact Subsingleton.elim (α := Fin 1) _ _
    · rfl⟩
  obtain ⟨a, ha⟩ := blk32 t
  have e : ((win2_6.blk t).view.emb (ix3 0 0 r)) = ix3 a 0 r := by blk_ext [idx2_6 t]
  rw [e, out2_6_at, row_z V c t r (tok32 a r) (by show 256 * a.val + r.val = _; omega)]
  rfl

/-- The outputs' codes. -/
theorem zcodes_arr (c : Dev nD) : (dat2 V c).arrAt 5 cfg2.N
    = fun i => Ideal.fptosi 8 (zcd (zRow V c (tok16 (i 0) (i 2))) (i 1)) := by
  refine (dat2 V c).arrAt_eq_of_covers 5 _ (by decide +kernel) fun t hf y => ?_
  blk_simp
  rw [after2_5]
  obtain ⟨j, r, rfl⟩ : ∃ (j : Fin 2112) (r : Fin 256), y = ix3 0 j r := ⟨y 1, y 2, by
    funext a; fin_cases a
    · exact Subsingleton.elim (α := Fin 1) _ _
    · rfl
    · rfl⟩
  obtain ⟨a, b, ha, hb⟩ : ∃ (a : Fin 16) (b : Fin 512), a.val = t.val / 2 ∧ b.val = 256 * (t.val % 2) + r.val := by
    obtain ⟨a, ha⟩ := blk32 t
    exact ⟨⟨t.val / 2, by omega⟩, ⟨256 * (t.val % 2) + r.val, by omega⟩, rfl, rfl⟩
  have e : ((win2_5.blk t).view.emb (ix3 0 j r)) = ix3 a j b := by blk_ext [idx2_5 t]
  rw [e, out2_5_at, row_z V c t r (tok16 a b) (by show 512 * a.val + b.val = _; omega)]
  rfl

end Cert.KernelIdeal.Out

end
-- ==== Proof.Value.Model.lean ====
/-
  The layer's seven results as functions of the token rows `T`, the weight rows `W`, the weights' column maxima `A` and the
  bias `B`: what both programs are shown to hold.
-/
module

public import proofs.«01_k».proof.Proof.Value.Spec
public import Idealize.ShloMosaic.Lib.Pipeline.Value
public import Idealize.ShloMosaic.Lib.Pointwise

@[expose] public section

noncomputable section

namespace Cert.Value

open Idealize.ShloMosaic

/-- Token `p`'s batch and position, and the token at a batch and a position. -/
abbrev bat (p : Fin 8192) : Fin 16 := ⟨p.val / 512, by omega⟩
abbrev pos (p : Fin 8192) : Fin 512 := ⟨p.val % 512, by omega⟩
abbrev tok (a : Fin 16) (b : Fin 512) : Fin 8192 := ⟨512 * a.val + b.val, by omega⟩

/-- The batch and position of the token at a batch and a position. -/
theorem bat_tok (a : Fin 16) (b : Fin 512) : bat (tok a b) = a := Fin.ext (by show (512 * a.val + b.val) / 512 = _; omega)
theorem pos_tok (a : Fin 16) (b : Fin 512) : pos (tok a b) = b := Fin.ext (by show (512 * a.val + b.val) % 512 = _; omega)

section Reshape

variable {α : Type}

/-- Flattening batches and positions to tokens. -/
theorem flat_tok (x : (⟨3, ![16, 512, 7168]⟩ : Shape).Idx → α) (h : (⟨3, ![16, 512, 7168]⟩ : Shape).ShapeCasts ⟨2, ![8192, 7168]⟩)
    (p : Fin 8192) (d : Fin 7168) : shapeCast ⟨2, ![8192, 7168]⟩ x h (ix2 p d) = x (ix3 (bat p) (pos p) d) := by
  refine shapeCast_apply _ _ _ _ ?_
  rw [rowMajor_val3 _ (512 * 7168) 7168 rfl rfl, rowMajor_val2 _ 7168 rfl]
  show p.val / 512 * (512 * 7168) + p.val % 512 * 7168 + d.val = p.val * 7168 + d.val
  omega

/-- Splitting tokens into batches and positions. -/
theorem split_tok {n : Nat} (x : (⟨2, ![8192, n]⟩ : Shape).Idx → α) (h : (⟨2, ![8192, n]⟩ : Shape).ShapeCasts ⟨3, ![16, 512, n]⟩)
    (a : Fin 16) (b : Fin 512) (d : Fin n) : shapeCast ⟨3, ![16, 512, n]⟩ x h (ix3 a b d) = x (ix2 (tok a b) d) := by
  refine shapeCast_apply _ _ _ _ ?_
  rw [rowMajor_val3 _ (512 * n) n rfl rfl, rowMajor_val2 _ n rfl]
  show (512 * a.val + b.val) * n + d.val = a.val * (512 * n) + b.val * n + d.val
  ring

/-- Splitting a column of tokens. -/
theorem split_col (x : (⟨2, ![8192, 1]⟩ : Shape).Idx → α) (h : (⟨2, ![8192, 1]⟩ : Shape).ShapeCasts ⟨2, ![16, 512]⟩)
    (a : Fin 16) (b : Fin 512) : shapeCast ⟨2, ![16, 512]⟩ x h (ix2 a b) = x (ix2 (tok a b) 0) := by
  refine shapeCast_apply _ _ _ _ ?_
  rw [rowMajor_val2 _ 1 rfl, rowMajor_val2 _ 512 rfl]
  show (512 * a.val + b.val) * 1 + 0 = a.val * 512 + b.val
  omega

/-- Splitting tokens stored as 32 rows of 256. -/
theorem split_lane (x : (⟨3, ![32, 1, 256]⟩ : Shape).Idx → α) (h : (⟨3, ![32, 1, 256]⟩ : Shape).ShapeCasts ⟨2, ![16, 512]⟩)
    (a : Fin 16) (b : Fin 512) : shapeCast ⟨2, ![16, 512]⟩ x h (ix2 a b)
      = x (ix3 ⟨2 * a.val + b.val / 256, by omega⟩ 0 ⟨b.val % 256, by omega⟩) := by
  refine shapeCast_apply _ _ _ _ ?_
  rw [rowMajor_val3 _ 256 256 rfl rfl, rowMajor_val2 _ 512 rfl]
  show (2 * a.val + b.val / 256) * 256 + 0 * 256 + b.val % 256 = a.val * 512 + b.val
  omega

end Reshape

/-- The tokens of the activations, the rows of the transposed weights, and the two vectors, as functions. -/
abbrev toks (x : (⟨3, ![16, 512, 7168]⟩ : Shape).Idx → EReal) : Fin 8192 → Fin 7168 → EReal := fun p d => x (ix3 (bat p) (pos p) d)
abbrev cols (w : (⟨2, ![7168, 2112]⟩ : Shape).Idx → EReal) : Fin 2112 → Fin 7168 → EReal := fun j d => w (ix2 d j)
abbrev vals {n : Nat} (a : (⟨1, ![n]⟩ : Shape).Idx → EReal) : Fin n → EReal := fun d => a (ix1 d)

variable (T : Fin 8192 → Fin 7168 → EReal) (W : Fin 2112 → Fin 7168 → EReal) (A : Fin 7168 → EReal) (B : Fin 2112 → EReal)

/-- The smoothing scales. -/
def sm : Fin 7168 → EReal := fun d => smooth (amax fun p : Fin 8192 => T p d) (A d)
/-- Token `p`'s outputs. -/
def zs (p : Fin 8192) : Fin 2112 → EReal := fun j => zval (T p) (sm T A) (W j) (B j)

/-- The output codes and scales. -/
def m1 : (⟨3, ![16, 512, 2112]⟩ : Shape).Idx → BitVec 8 := fun i => Ideal.fptosi 8 (zcd (zs T W A B (tok (i 0) (i 1))) (i 2))
def m2 : (⟨2, ![16, 512]⟩ : Shape).Idx → EReal := fun i => zsc (zs T W A B (tok (i 0) (i 1)))
/-- The smoothing scales. -/
def m3 : (⟨1, ![7168]⟩ : Shape).Idx → EReal := fun i => sm T A (i 0)
/-- The weight codes and scales. -/
def m4 : (⟨2, ![7168, 2112]⟩ : Shape).Idx → BitVec 8 := fun i => Ideal.fptosi 8 (wcd (W (i 1)) (sm T A) (i 0))
def m5 : (⟨1, ![2112]⟩ : Shape).Idx → EReal := fun i => wsc (W (i 0)) (sm T A)
/-- The activation codes and scales. -/
def m6 : (⟨3, ![16, 512, 7168]⟩ : Shape).Idx → BitVec 8 := fun i => Ideal.fptosi 8 (xcd (T (tok (i 0) (i 1))) (sm T A) (i 2))
def m7 : (⟨2, ![16, 512]⟩ : Shape).Idx → EReal := fun i => xsc (T (tok (i 0) (i 1))) (sm T A)

end Cert.Value

end
-- ==== Proof.Value.KernelHost.lean ====
/-
  What the kernel's host operations and calls leave in the result arrays.
-/
module

public import proofs.«01_k».proof.Proof.RunIdeal.Run
public import proofs.«01_k».proof.Proof.Value.OutSmooth
public import proofs.«01_k».proof.Proof.Value.OutWeight
public import proofs.«01_k».proof.Proof.Value.OutLinear
public import proofs.«01_k».proof.Proof.Value.Model
public import Idealize.ShloMosaic.Lib.Pointwise

@[expose] public section

set_option maxRecDepth 16384

noncomputable section

namespace Cert.KernelIdeal.Out

open Cert.KernelIdeal Cert.KernelIdeal.Gen Cert.KernelIdeal.Run Cert.Value
open Idealize.ShloMosaic Idealize.ShloMosaic.TcCoe Idealize.ShloMosaic.Tactic

variable (m : (ℓ : Loc nD τ sig) → Buf (Elt Ideal) ℓ) (ρ : Dev nD → PrngReg) (c : Dev nD)

/-- The arguments' rows. -/
abbrev aT : Fin 8192 → Fin 7168 → EReal := toks (m ((c : Thread nD τ).loc main_arg0))
abbrev aW : Fin 2112 → Fin 7168 → EReal := cols (m ((c : Thread nD τ).loc main_arg1))
abbrev aA : Fin 7168 → EReal := vals (m ((c : Thread nD τ).loc main_arg2))
abbrev aB : Fin 2112 → EReal := vals (m ((c : Thread nD τ).loc main_arg3))

/-- The activations, flattened to tokens. -/
theorem v1_v0 (p : Fin 8192) (d : Fin 7168) : V1 m ρ c main_v0 (ix2 p d) = aT m c p d := by
  show StableHlo.after hostOps0 (W0 m ρ c) (Proc.devRef .tc main_v0) (ix2 p d) = _
  after_results
  exact flat_tok _ _ p d

/-- The weights, transposed. -/
theorem v1_v1 (j : Fin 2112) (d : Fin 7168) : V1 m ρ c main_v1 (ix2 j d) = aW m c j d := by
  show StableHlo.after hostOps0 (W0 m ρ c) (Proc.devRef .tc main_v1) (ix2 j d) = _
  after_results
  pointwise

/-- The weights' column maxima. -/
theorem v1_v2 (d : Fin 7168) : V1 m ρ c main_v2 (ix2 0 d) = aA m c d := by
  show StableHlo.after hostOps0 (W0 m ρ c) (Proc.devRef .tc main_v2) (ix2 0 d) = _
  after_results
  pointwise

/-- The smoothing scales. -/
theorem v2_v3 (d : Fin 7168) : V2 m ρ c main_v3 (ix2 0 d) = sm (aT m c) (aA m c) d := by
  show W2 m ρ c (Proc.devRef .tc (Pipeline.arrRef spec0 2)) (ix2 0 d) = _
  rw [W2_arr, smoothed]
  exact congrArg₂ smooth (congrArg amax (funext fun p => v1_v0 m ρ c p d)) (v1_v2 m ρ c d)

theorem v2_v1 (j : Fin 2112) (d : Fin 7168) : V2 m ρ c main_v1 (ix2 j d) = aW m c j d :=
  (congrFun (W2_of m ρ c main_v1 (by decide)) _).trans (v1_v1 m ρ c j d)

theorem wrow_eq (j : Fin 2112) : wrow (V2 m ρ) c j = aW m c j := funext fun d => v2_v1 m ρ c j d
theorem srow_eq : srow (V2 m ρ) c = sm (aT m c) (aA m c) := funext fun d => v2_v3 m ρ c d

/-- The weight codes, the same as the product reads them, and the scales. -/
theorem v3_v4_0 (j : Fin 2112) (d : Fin 7168) :
    V3 m ρ c main_v4_0 (ix2 j d) = Ideal.fptosi 8 (wcd (aW m c j) (sm (aT m c) (aA m c)) d) := by
  show W3 m ρ c (Proc.devRef .tc (Pipeline.arrRef spec1 2)) (ix2 j d) = _
  rw [W3_arr, wcodes, ← wrow_eq m ρ c j, ← srow_eq m ρ c]
  rfl
theorem v3_v4_1 (j : Fin 2112) (d : Fin 7168) :
    V3 m ρ c main_v4_1 (ix2 j d) = wcd (aW m c j) (sm (aT m c) (aA m c)) d := by
  show W3 m ρ c (Proc.devRef .tc (Pipeline.arrRef spec1 3)) (ix2 j d) = _
  rw [W3_arr, wbf, ← wrow_eq m ρ c j, ← srow_eq m ρ c]
  rfl
theorem v3_v4_2 (j : Fin 2112) : V3 m ρ c main_v4_2 (ix2 j 0) = wsc (aW m c j) (sm (aT m c) (aA m c)) := by
  show W3 m ρ c (Proc.devRef .tc (Pipeline.arrRef spec1 4)) (ix2 j 0) = _
  rw [W3_arr, wscales, ← wrow_eq m ρ c j, ← srow_eq m ρ c]
  rfl

/-- The bias, as a column. -/
theorem v4_v5 (j : Fin 2112) : V4 m ρ c main_v5 (ix2 j 0) = aB m c j := by
  show StableHlo.after hostOps2 (W3 m ρ c) (Proc.devRef .tc main_v5) (ix2 j 0) = _
  after_results
  rw [W3_args m ρ c main_arg3 (by decide)]
  pointwise

/-- The linear call's operands at its entry. -/
theorem xRow_eq (p : Fin 8192) : xRow (V4 m ρ) c p = aT m c p := funext fun d =>
  ((congrFun (W4_of m ρ c main_v0 (by decide)) _).trans ((congrFun (W3_of m ρ c main_v0 (by decide)) _).trans
    (congrFun (W2_of m ρ c main_v0 (by decide)) _))).trans (v1_v0 m ρ c p d)
theorem sRow_eq : sRow (V4 m ρ) c = sm (aT m c) (aA m c) := funext fun d =>
  ((congrFun (W4_of m ρ c main_v3 (by decide)) _).trans (congrFun (W3_of m ρ c main_v3 (by decide)) _)).trans (v2_v3 m ρ c d)
theorem wqRow_eq (j : Fin 2112) : wqRow (V4 m ρ) c j = wcd (aW m c j) (sm (aT m c) (aA m c)) := funext fun d =>
  (congrFun (W4_of m ρ c main_v4_1 (by decide)) _).trans (v3_v4_1 m ρ c j d)
theorem v4_v4_2 (j : Fin 2112) : V4 m ρ c main_v4_2 (ix2 j 0) = wsc (aW m c j) (sm (aT m c) (aA m c)) :=
  (congrFun (W4_of m ρ c main_v4_2 (by decide)) _).trans (v3_v4_2 m ρ c j)
theorem zRow_eq (p : Fin 8192) : zRow (V4 m ρ) c p = zs (aT m c) (aW m c) (aA m c) (aB m c) p := by
  funext j
  unfold zRow zs zval
  rw [xRow_eq, sRow_eq, wqRow_eq, v4_v4_2, v4_v5]

/-! ## The results -/

/-- Where the rows of 256 put a token. -/
theorem tok32_lane (a : Fin 16) (b : Fin 512) : tok32 ⟨2 * a.val + b.val / 256, by omega⟩ ⟨b.val % 256, by omega⟩ = tok a b :=
  Fin.ext (by show 256 * (2 * a.val + b.val / 256) + b.val % 256 = 512 * a.val + b.val; omega)

theorem res1 : W6 m ρ c (Proc.devRef .tc main_v7) = m1 (aT m c) (aW m c) (aA m c) (aB m c) := by
  funext i
  obtain ⟨a, b, j, rfl⟩ : ∃ (a : Fin 16) (b : Fin 512) (j : Fin 2112), i = ix3 a b j := ⟨i 0, i 1, i 2, by funext a; fin_cases a <;> rfl⟩
  show StableHlo.after hostOps3 (W5 m ρ c) (Proc.devRef .tc main_v7) (ix3 a b j) = _
  after_results
  rw [show W5 m ρ c (Proc.devRef .tc main_v6_0) = _ from W5_arr m ρ c 5, zcodes_arr]
  pointwise
  unfold m1
  rw [← zRow_eq]
  rfl

theorem res2 : W6 m ρ c (Proc.devRef .tc main_v8) = m2 (aT m c) (aW m c) (aA m c) (aB m c) := by
  funext i
  obtain ⟨a, b, rfl⟩ : ∃ (a : Fin 16) (b : Fin 512), i = ix2 a b := ⟨i 0, i 1, by funext a; fin_cases a <;> rfl⟩
  show StableHlo.after hostOps3 (W5 m ρ c) (Proc.devRef .tc main_v8) (ix2 a b) = _
  after_results
  rw [show W5 m ρ c (Proc.devRef .tc main_v6_1) = _ from W5_arr m ρ c 6, zscales_arr]
  refine (split_lane _ _ a b).trans ?_
  unfold m2
  rw [← zRow_eq]
  exact congrArg (fun p => zsc (zRow (V4 m ρ) c p)) (tok32_lane a b)

theorem res3 : W6 m ρ c (Proc.devRef .tc main_v9) = m3 (aT m c) (aA m c) := by
  funext i
  obtain ⟨d, rfl⟩ : ∃ d : Fin 7168, i = ix1 d := ⟨i 0, by funext a; fin_cases a; rfl⟩
  show StableHlo.after hostOps3 (W5 m ρ c) (Proc.devRef .tc main_v9) (ix1 d) = _
  after_results
  rw [W5_of m ρ c main_v3 (by decide), W4_of m ρ c main_v3 (by decide), W3_of m ρ c main_v3 (by decide)]
  pointwise
  exact v2_v3 m ρ c d

theorem res4 : W6 m ρ c (Proc.devRef .tc main_v10) = m4 (aT m c) (aW m c) (aA m c) := by
  funext i
  obtain ⟨d, j, rfl⟩ : ∃ (d : Fin 7168) (j : Fin 2112), i = ix2 d j := ⟨i 0, i 1, by funext a; fin_cases a <;> rfl⟩
  show StableHlo.after hostOps3 (W5 m ρ c) (Proc.devRef .tc main_v10) (ix2 d j) = _
  after_results
  rw [W5_of m ρ c main_v4_0 (by decide), W4_of m ρ c main_v4_0 (by decide)]
  pointwise
  exact v3_v4_0 m ρ c j d

theorem res5 : W6 m ρ c (Proc.devRef .tc main_v11) = m5 (aT m c) (aW m c) (aA m c) := by
  funext i
  obtain ⟨j, rfl⟩ : ∃ j : Fin 2112, i = ix1 j := ⟨i 0, by funext a; fin_cases a; rfl⟩
  show StableHlo.after hostOps3 (W5 m ρ c) (Proc.devRef .tc main_v11) (ix1 j) = _
  after_results
  rw [W5_of m ρ c main_v4_2 (by decide), W4_of m ρ c main_v4_2 (by decide)]
  pointwise
  exact v3_v4_2 m ρ c j

theorem res6 : W6 m ρ c (Proc.devRef .tc main_v12) = m6 (aT m c) (aA m c) := by
  funext i
  obtain ⟨a, b, d, rfl⟩ : ∃ (a : Fin 16) (b : Fin 512) (d : Fin 7168), i = ix3 a b d := ⟨i 0, i 1, i 2, by funext a; fin_cases a <;> rfl⟩
  show StableHlo.after hostOps3 (W5 m ρ c) (Proc.devRef .tc main_v12) (ix3 a b d) = _
  after_results
  rw [show W5 m ρ c (Proc.devRef .tc main_v6_2) = _ from W5_arr m ρ c 7, xcodes_arr]
  refine (split_tok _ _ a b d).trans ?_
  unfold m6
  rw [← sRow_eq m ρ c, ← xRow_eq m ρ c]
  rfl

theorem res7 : W6 m ρ c (Proc.devRef .tc main_v13) = m7 (aT m c) (aA m c) := by
  funext i
  obtain ⟨a, b, rfl⟩ : ∃ (a : Fin 16) (b : Fin 512), i = ix2 a b := ⟨i 0, i 1, by funext a; fin_cases a <;> rfl⟩
  show StableHlo.after hostOps3 (W5 m ρ c) (Proc.devRef .tc main_v13) (ix2 a b) = _
  after_results
  rw [show W5 m ρ c (Proc.devRef .tc main_v6_3) = _ from W5_arr m ρ c 8, xscales_arr]
  refine (split_lane _ _ a b).trans ?_
  unfold m7
  rw [← sRow_eq m ρ c, ← xRow_eq m ρ c]
  exact congrArg (fun p => xsc (xRow (V4 m ρ) c p) (sRow (V4 m ρ) c)) (tok32_lane a b)

end Cert.KernelIdeal.Out

end
-- ==== Proof.Value.PayRef.lean ====
/-
  What the reference's body computes, read at one element.
-/
module

public import proofs.«01_k».proof.Proof.Gen.ReferenceIdeal.Skeleton
public import proofs.«01_k».proof.Proof.Value.Spec

@[expose] public section

set_option maxRecDepth 16384

noncomputable section

namespace Cert.ReferenceIdeal.Pay

open Idealize.ShloMosaic Cert.ReferenceIdeal Cert.ReferenceIdeal.Gen Cert.Value

/-- A smoothed weight. -/
theorem wprod (s : Vec Ideal S1x7168 .f32) (w : Vec Ideal S7168x2112 .bf16) (d : Fin 7168) (n : Fin 2112) :
    k0_pay2 s w (ix2 d n) = w (ix2 d n) * s (ix2 0 d) := by
  pointwise [k0_pay2, k0_pay1]

/-- The greatest magnitude of a column. -/
theorem wcolmax (v : FVec Ideal S7168x2112 .f32) (n : Fin 2112) :
    shapeCast S1x2112 (multiReduction .maximumf [0] S2112 (absf v) 0xFF800000#32 reduces_S7168x2112_S2112 (.inl rfl) rfl)
      shapeCasts_S2112_S1x2112 (ix2 0 n) = amax fun d => v (ix2 d n) := by
  unfold amax mag
  pointwise

/-- A row spread over the columns. -/
theorem wspread (u : FVec Ideal S1x2112 .f32) (d : Fin 7168) (n : Fin 2112) :
    broadcastTo S7168x2112 u broadcasts_S1x2112_S7168x2112 (ix2 d n) = u (ix2 0 n) := by pointwise

/-- The scale of a column of smoothed weights. -/
theorem wscl (s : Vec Ideal S1x7168 .f32) (w : Vec Ideal S7168x2112 .bf16) (n : Fin 2112) :
    k0_pay3 s w (ix2 0 n) = scale (amax fun d : Fin 7168 => w (ix2 d n) * s (ix2 0 d)) :=
  (scale_at _ _).trans (congrArg scale ((wcolmax _ n).trans (congrArg amax (funext fun d => wprod s w d n))))

/-- The integer code of a smoothed weight. -/
theorem wint (s : Vec Ideal S1x7168 .f32) (w : Vec Ideal S7168x2112 .bf16) (d : Fin 7168) (n : Fin 2112) :
    k0_pay4 s w (ix2 d n) = Ideal.fptosi 8 (code (w (ix2 d n) * s (ix2 0 d))
      (scale (amax fun e : Fin 7168 => w (ix2 e n) * s (ix2 0 e)))) :=
  congrArg (Ideal.fptosi 8)
    ((code_at _ _ _).trans (congrArg₂ code (wprod s w d n) ((wspread _ d n).trans (wscl s w n))))

/-- A smoothed activation. -/
theorem xdiv (s : Vec Ideal S1x7168 .f32) (x : Vec Ideal S8192x7168 .bf16) (n : Fin 8192) (d : Fin 7168) :
    k0_pay5 s x (ix2 n d) = Ideal.div (x (ix2 n d)) (s (ix2 0 d)) := by
  pointwise [k0_pay5, k0_pay1]

/-- The greatest magnitude of a row. -/
theorem xrowmax (v : FVec Ideal S8192x7168 .f32) (n : Fin 8192) :
    shapeCast S8192x1 (multiReduction .maximumf [1] S8192 (absf v) 0xFF800000#32 reduces_S8192x7168_S8192 (.inl rfl) rfl)
      shapeCasts_S8192_S8192x1 (ix2 n 0) = amax fun d => v (ix2 n d) := by
  unfold amax mag
  pointwise

/-- A column spread over the row. -/
theorem xspread (u : FVec Ideal S8192x1 .f32) (n : Fin 8192) (d : Fin 7168) :
    broadcastTo S8192x7168 u broadcasts_S8192x1_S8192x7168 (ix2 n d) = u (ix2 n 0) := by pointwise

/-- The scale column of the smoothed activations, from the parts the program names. -/
abbrev xs (s : Vec Ideal S1x7168 .f32) (x : Vec Ideal S8192x7168 .bf16) : FVec Ideal S8192x1 .f32 :=
  k0_pay9 (k0_pay7 s x) (k0_pay8 s x) (Scalar.ofBits .f32 0x3F800000#32)

/-- The scale of a row of smoothed activations. -/
theorem xscl (s : Vec Ideal S1x7168 .f32) (x : Vec Ideal S8192x7168 .bf16) (n : Fin 8192) :
    xs s x (ix2 n 0) = scale (amax fun d : Fin 7168 => Ideal.div (x (ix2 n d)) (s (ix2 0 d))) :=
  (scale_at _ _).trans (congrArg scale ((xrowmax _ n).trans (congrArg amax (funext fun d => xdiv s x n d))))

/-- The integer codes of the smoothed activations, from the parts the program names. -/
abbrev xq (s : Vec Ideal S1x7168 .f32) (x : Vec Ideal S8192x7168 .bf16) : IVec S8192x7168 8 :=
  k0_pay10 (k0_pay5 s x) (k0_pay7 s x) (k0_pay8 s x) (Scalar.ofBits .f32 0x3F800000#32)

/-- The integer code of a smoothed activation. -/
theorem xint (s : Vec Ideal S1x7168 .f32) (x : Vec Ideal S8192x7168 .bf16) (n : Fin 8192) (d : Fin 7168) :
    xq s x (ix2 n d) = Ideal.fptosi 8 (code (Ideal.div (x (ix2 n d)) (s (ix2 0 d)))
      (scale (amax fun e : Fin 7168 => Ideal.div (x (ix2 n e)) (s (ix2 0 e))))) :=
  congrArg (Ideal.fptosi 8)
    ((code_at _ _ _).trans (congrArg₂ code (xdiv s x n d) ((xspread _ n d).trans (xscl s x n))))

/-- The product of activation codes and weight codes. -/
theorem prod (q : IVec S8192x7168 8) (w : IVec S7168x2112 8) (t : Fin 8192) (j : Fin 2112) :
    matmul dot_S8192x7168_S7168x2112_S8192x2112_1_0_0_1_n_n none (sitofp (F := Ideal) .bf16 q) (sitofp .bf16 w)
        (constant S8192x2112 .f32 0x00000000#32) (ix2 t j)
      = ∑ d : Fin 7168, (((q (ix2 t d)).toInt : ℝ) : EReal) * (((w (ix2 d j)).toInt : ℝ) : EReal) := by
  pointwise
  rfl

/-- A column spread over the outputs. -/
theorem colspread (u : FVec Ideal S8192x1 .f32) (t : Fin 8192) (j : Fin 2112) :
    broadcastTo S8192x2112 u broadcasts_S8192x1_S8192x2112 (ix2 t j) = u (ix2 t 0) := by pointwise

/-- A row spread over the tokens. -/
theorem rowspread (u : FVec Ideal S1x2112 .f32) (t : Fin 8192) (j : Fin 2112) :
    broadcastTo S8192x2112 u broadcasts_S1x2112_S8192x2112 (ix2 t j) = u (ix2 0 j) := by pointwise

/-- The bias row spread over the tokens. -/
theorem biasspread (u : Vec Ideal S1x2112 .f32) (t : Fin 8192) (j : Fin 2112) :
    broadcastTo S8192x2112 (shapeCast S1x2112 u shapeCasts_S1x2112_S1x2112) broadcasts_S1x2112_S8192x2112 (ix2 t j)
      = u (ix2 0 j) := by pointwise

/-- A code read back from its 8-bit integer. -/
theorem back {z : BitVec 8} {v s : EReal} (h : z = Ideal.fptosi 8 (code v s)) : ((z.toInt : ℝ) : EReal) = code v s := by
  rw [h, code_roundtrip]

/-- The dequantisation, read at an index. -/
theorem affine_at {S : Shape} (a b c d : FVec Ideal S .f32) (i : S.Idx) :
    addf (mulf (mulf a b) c) d i = a i * b i * c i + d i := rfl

/-- The outputs before requantisation, from the parts the program names. -/
abbrev zs (s : Vec Ideal S1x7168 .f32) (w : Vec Ideal S7168x2112 .bf16) (x : Vec Ideal S8192x7168 .bf16)
    (b : Vec Ideal S1x2112 .f32) : FVec Ideal S8192x2112 .f32 :=
  k0_pay11 (k0_pay3 s w) (k0_pay4 s w) (k0_pay5 s x) (k0_pay7 s x) (k0_pay8 s x) (Scalar.ofBits .f32 0x3F800000#32) b

/-- An output before it is requantised. -/
theorem lin (s : Vec Ideal S1x7168 .f32) (w : Vec Ideal S7168x2112 .bf16) (x : Vec Ideal S8192x7168 .bf16)
    (b : Vec Ideal S1x2112 .f32) (t : Fin 8192) (j : Fin 2112) :
    zs s w x b (ix2 t j) = linear
      (fun d : Fin 7168 => code (Ideal.div (x (ix2 t d)) (s (ix2 0 d)))
        (scale (amax fun e : Fin 7168 => Ideal.div (x (ix2 t e)) (s (ix2 0 e)))))
      (fun d : Fin 7168 => code (w (ix2 d j) * s (ix2 0 d)) (scale (amax fun e : Fin 7168 => w (ix2 e j) * s (ix2 0 e))))
      (scale (amax fun d : Fin 7168 => Ideal.div (x (ix2 t d)) (s (ix2 0 d))))
      (scale (amax fun d : Fin 7168 => w (ix2 d j) * s (ix2 0 d))) (b (ix2 0 j)) := by
  refine (affine_at _ _ _ _ _).trans ?_
  have h1 := fun d : Fin 7168 => congrArg₂ (· * ·) (back (xint s x t d)) (back (wint s w d j))
  have h2 := (colspread (xs s x) t j).trans (xscl s x t)
  rw [h2, rowspread, biasspread, wscl]
  rw [prod]
  unfold linear
  rw [Finset.sum_congr rfl fun d _ => h1 d]

/-- The greatest magnitude of a row of outputs. -/
theorem zrowmax (v : FVec Ideal S8192x2112 .f32) (t : Fin 8192) :
    shapeCast S8192x1 (multiReduction .maximumf [1] S8192 (absf v) 0xFF800000#32 reduces_S8192x2112_S8192 (.inl rfl) rfl)
      shapeCasts_S8192_S8192x1 (ix2 t 0) = amax fun j => v (ix2 t j) := by
  unfold amax mag
  pointwise

/-- The scale of a row of outputs. -/
theorem zscl (s : Vec Ideal S1x7168 .f32) (w : Vec Ideal S7168x2112 .bf16) (x : Vec Ideal S8192x7168 .bf16)
    (b : Vec Ideal S1x2112 .f32) (t : Fin 8192) :
    k0_pay12 (k0_pay3 s w) (k0_pay4 s w) (k0_pay5 s x) (k0_pay7 s x) (k0_pay8 s x) (Scalar.ofBits .f32 0x3F800000#32) b
      (ix2 t 0) = scale (amax fun j : Fin 2112 => zs s w x b (ix2 t j)) :=
  (scale_at _ _).trans (congrArg scale (zrowmax _ t))

/-- The integer code of an output. -/
theorem zint (s : Vec Ideal S1x7168 .f32) (w : Vec Ideal S7168x2112 .bf16) (x : Vec Ideal S8192x7168 .bf16)
    (b : Vec Ideal S1x2112 .f32) (t : Fin 8192) (j : Fin 2112) :
    k0_pay13 (k0_pay3 s w) (k0_pay4 s w) (k0_pay5 s x) (k0_pay7 s x) (k0_pay8 s x) (Scalar.ofBits .f32 0x3F800000#32) b
      (ix2 t j) = Ideal.fptosi 8 (code (zs s w x b (ix2 t j)) (scale (amax fun j : Fin 2112 => zs s w x b (ix2 t j)))) :=
  congrArg (Ideal.fptosi 8)
    ((code_at _ _ _).trans (congrArg (code _) ((colspread _ t j).trans (zscl s w x b t))))

end Cert.ReferenceIdeal.Pay

end
-- ==== Proof.Value.RefOut.lean ====
/-
  What the reference leaves in its result arrays.
-/
module

public import proofs.«01_k».proof.Proof.Gen.ReferenceIdeal.Frame
public import proofs.«01_k».proof.Proof.Value.PayRef
public import proofs.«01_k».proof.Proof.Value.Model
public import Idealize.ShloMosaic.Lib.Pipeline.ValueKit

@[expose] public section

set_option maxRecDepth 16384

noncomputable section

namespace Cert.ReferenceIdeal.Out

open Cert.ReferenceIdeal Cert.ReferenceIdeal.Gen Cert.Value
open Idealize.ShloMosaic Idealize.ShloMosaic.TcCoe Idealize.ShloMosaic.Tactic

/-! ## The body's stores -/

theorem hz2 : (![0, 0] : Fin 2 → Nat) = fun _ => 0 := by funext a; fin_cases a <;> rfl

section Stores

variable (x0 : Vec Ideal S8192x7168 .bf16) (x1 : Vec Ideal S1x7168 .f32) (x2 : Vec Ideal S7168x2112 .bf16) (x3 : Vec Ideal S1x2112 .f32)

/-- A whole-buffer load is the buffer. -/
theorem ld0 : View.ld x0 r0_3 = x0 := View.ld_unit_zero (S := S8192x7168) hz2 _ _
theorem ld1 : View.ld x1 r0_0 = x1 := View.ld_unit_zero (S := S1x7168) hz2 _ _
theorem ld2 : View.ld x2 r0_1 = x2 := View.ld_unit_zero (S := S7168x2112) hz2 _ _
theorem ld3 : View.ld x3 r0_2 = x3 := View.ld_unit_zero (S := S1x2112) hz2 _ _

/-- Each output buffer after the body, as the value stored. -/
theorem st4 : out0_4 x0 x1 x2 x3
    = k0_pay13 (k0_pay3 x1 x2) (k0_pay4 x1 x2) (k0_pay5 x1 x0) (k0_pay7 x1 x0) (k0_pay8 x1 x0) (Scalar.ofBits .f32 0x3F800000#32) x3 := by
  unfold out0_4 k0_pay14 k0_pay15 k0_pay16 k0_pay17 k0_pay18
  rw [View.canon_cons_unit_zero hz2, ld0, ld1, ld2, ld3]
theorem st5 : out0_5 x0 x1 x2 x3
    = k0_pay12 (k0_pay3 x1 x2) (k0_pay4 x1 x2) (k0_pay5 x1 x0) (k0_pay7 x1 x0) (k0_pay8 x1 x0) (Scalar.ofBits .f32 0x3F800000#32) x3 := by
  unfold out0_5 k0_pay14 k0_pay15 k0_pay16 k0_pay17 k0_pay18
  rw [View.canon_cons_unit_zero hz2, ld0, ld1, ld2, ld3]
theorem st6 : out0_6 x0 x1 x2 x3 = k0_pay4 x1 x2 := by
  unfold out0_6
  rw [View.canon_cons_unit_zero hz2, ld1, ld2]
theorem st7 : out0_7 x0 x1 x2 x3 = k0_pay3 x1 x2 := by
  unfold out0_7
  rw [View.canon_cons_unit_zero hz2, ld1, ld2]
theorem st8 : out0_8 x0 x1 x2 x3 = Pay.xq x1 x0 := by
  unfold out0_8 k0_pay16 k0_pay17 k0_pay18
  rw [View.canon_cons_unit_zero hz2, ld0, ld1]
theorem st9 : out0_9 x0 x1 x2 x3 = Pay.xs x1 x0 := by
  unfold out0_9 k0_pay17 k0_pay18
  rw [View.canon_cons_unit_zero hz2, ld0, ld1]

end Stores

/-! ## The host's column maximum -/

/-- The source indices the reduction folds at column `d`. -/
theorem drop_iff (i : S16x512x7168.Idx) (d : Fin 7168) : reducesTo_S16x512x7168_S7168_d0_1.drop i = ix1 d ↔ i 2 = d := by
  constructor
  · intro e
    exact Fin.ext (congrArg Fin.val (congrFun e 0))
  · rintro rfl
    funext a
    fin_cases a
    exact Fin.ext rfl

/-- The largest magnitude of a column over batches and positions is that over tokens. -/
theorem hostmax (x : FVec Ideal S16x512x7168 .f32) (d : Fin 7168) :
    Host.reduce FloatOps.maximumf (Host.absf x) (constant S_ .f32 0xFF800000#32) reducesTo_S16x512x7168_S7168_d0_1 h_S_ (ix1 d)
      = amax fun p => x (ix3 (bat p) (pos p) d) := by
  refine eq_of_forall_ge_iff fun u => ?_
  show Host.reduce (max : EReal → EReal → EReal) _ _ _ _ _ ≤ u ↔ _
  rw [Host.reduce_eq_fold, amax_le]
  refine (fold_le _ _ _ _ bot_f32).trans ?_
  constructor
  · intro h p
    exact h (ix3 (bat p) (pos p) d) (Finset.mem_filter.mpr ⟨Finset.mem_univ _, (drop_iff _ _).mpr rfl⟩)
  · intro h i hi
    obtain ⟨a, b, e, rfl⟩ : ∃ (a : Fin 16) (b : Fin 512) (e : Fin 7168), i = ix3 a b e :=
      ⟨i 0, i 1, i 2, by funext a; fin_cases a <;> rfl⟩
    obtain rfl : e = d := (drop_iff _ _).mp (Finset.mem_filter.mp hi).2
    have := h (tok a b)
    rw [bat_tok, pos_tok] at this
    exact this

/-- The host's smoothing scales. -/
def hostS (x : FVec Ideal S16x512x7168 .bf16) (a : FVec Ideal S7168 .f32) : FVec Ideal S7168 .f32 :=
  Host.divf
    (Host.powf (maximumf (Host.reduce FloatOps.maximumf (Host.absf (extf .f32 x bitsLt_bf16_f32)) (constant S_ .f32 0xFF800000#32)
        reducesTo_S16x512x7168_S7168_d0_1 h_S_) (broadcastInDim S7168 ![] bcast_S_S7168 (constant S_ .f32 0x3727C5AC#32)))
      (broadcastInDim S7168 ![] bcast_S_S7168 (constant S_ .f32 0x3F000000#32)))
    (Host.powf (maximumf a (broadcastInDim S7168 ![] bcast_S_S7168 (constant S_ .f32 0x3727C5AC#32)))
      (broadcastInDim S7168 ![] bcast_S_S7168 (constant S_ .f32 0x3F000000#32)))

/-- Their last step at an index, from the two maxima. -/
theorem ratio_at (r a : FVec Ideal S7168 .f32) (i : S7168.Idx) :
    Host.divf
      (Host.powf (maximumf r (broadcastInDim S7168 ![] bcast_S_S7168 (constant S_ .f32 0x3727C5AC#32)))
        (broadcastInDim S7168 ![] bcast_S_S7168 (constant S_ .f32 0x3F000000#32)))
      (Host.powf (maximumf a (broadcastInDim S7168 ![] bcast_S_S7168 (constant S_ .f32 0x3727C5AC#32)))
        (broadcastInDim S7168 ![] bcast_S_S7168 (constant S_ .f32 0x3F000000#32))) i = smooth (r i) (a i) :=
  Eq.trans rfl (smooth_pow (r i) (a i))

theorem hostS_at (x : FVec Ideal S16x512x7168 .bf16) (a : FVec Ideal S7168 .f32) (d : Fin 7168) :
    hostS x a (ix1 d) = sm (toks x) (vals a) d := by
  unfold hostS sm
  rw [ratio_at, hostmax]
  rfl

/-- A vector as a row. -/
theorem rowcast (v : FVec Ideal S7168 .f32) (d : Fin 7168) : shapeCast S1x7168 v shapeCasts_S7168_S1x7168 (ix2 0 d) = v (ix1 d) := by
  pointwise

/-! ## The region's operands -/

variable (m : (ℓ : Loc nD τ sig) → Buf (Elt Ideal) ℓ) (c : Dev nD)

/-- The arguments' rows. -/
abbrev aT : Fin 8192 → Fin 7168 → EReal := toks (m ((c : Thread nD τ).loc main_arg0))
abbrev aW : Fin 2112 → Fin 7168 → EReal := cols (m ((c : Thread nD τ).loc main_arg1))
abbrev aA : Fin 7168 → EReal := vals (m ((c : Thread nD τ).loc main_arg2))
abbrev aB : Fin 2112 → EReal := vals (m ((c : Thread nD τ).loc main_arg3))

theorem v_v12 (p : Fin 8192) (d : Fin 7168) : V m c main_v12 (ix2 p d) = aT m c p d := by
  show StableHlo.after hostOps0 (fun b => m (c, b)) (Proc.devRef .tc main_v12) (ix2 p d) = _
  after_results
  exact flat_tok _ _ p d

theorem v_v14 (j : Fin 2112) : V m c main_v14 (ix2 0 j) = aB m c j := by
  show StableHlo.after hostOps0 (fun b => m (c, b)) (Proc.devRef .tc main_v14) (ix2 0 j) = _
  after_results
  pointwise

theorem v_v11 : V m c main_v11 = hostS (m ((c : Thread nD τ).loc main_arg0)) (m ((c : Thread nD τ).loc main_arg2)) := by
  show StableHlo.after hostOps0 (fun b => m (c, b)) (Proc.devRef .tc main_v11) = _
  after_results
  unfold hostS
  rfl

theorem v_v13 (d : Fin 7168) : V m c main_v13 (ix2 0 d) = sm (aT m c) (aA m c) d := by
  show StableHlo.after hostOps0 (fun b => m (c, b)) (Proc.devRef .tc main_v13) (ix2 0 d) = _
  after_results
  exact (rowcast _ d).trans (hostS_at (m ((c : Thread nD τ).loc main_arg0)) (m ((c : Thread nD τ).loc main_arg2)) d)

end Cert.ReferenceIdeal.Out

end
-- ==== Proof.Value.RefRes.lean ====
/-
  The reference's result arrays as the model's functions of its arguments.
-/
module

public import proofs.«01_k».proof.Proof.Value.RefOut

@[expose] public section

set_option maxRecDepth 16384

noncomputable section

namespace Cert.ReferenceIdeal.Out

open Cert.ReferenceIdeal Cert.ReferenceIdeal.Gen Cert.Value
open Idealize.ShloMosaic Idealize.ShloMosaic.TcCoe Idealize.ShloMosaic.Tactic

variable (m : (ℓ : Loc nD τ sig) → Buf (Elt Ideal) ℓ) (c : Dev nD)

/-! ## The blocks: each is its whole array -/

theorem idx0_0 : ∀ t : Fin cfg0.N, win0_0.index t = ![0, 0] := (by decide +kernel : ∀ t : Fin grid0.N, win0_0.index t = ![0, 0])
theorem idx0_1 : ∀ t : Fin cfg0.N, win0_1.index t = ![0, 0] := (by decide +kernel : ∀ t : Fin grid0.N, win0_1.index t = ![0, 0])
theorem idx0_2 : ∀ t : Fin cfg0.N, win0_2.index t = ![0, 0] := (by decide +kernel : ∀ t : Fin grid0.N, win0_2.index t = ![0, 0])
theorem idx0_3 : ∀ t : Fin cfg0.N, win0_3.index t = ![0, 0] := (by decide +kernel : ∀ t : Fin grid0.N, win0_3.index t = ![0, 0])

theorem blk0 (t : Fin cfg0.N) (p : Fin 8192) (d : Fin 7168) : iblk m c 0 t (ix2 p d) = aT m c p d := by
  rw [← v_v12]; blk_ext [iblk, idx0_0 t]
theorem blk1 (t : Fin cfg0.N) (d : Fin 7168) : iblk m c 1 t (ix2 0 d) = sm (aT m c) (aA m c) d := by
  rw [← v_v13]; blk_ext [iblk, idx0_1 t]
theorem blk2 (t : Fin cfg0.N) (d : Fin 7168) (j : Fin 2112) : iblk m c 2 t (ix2 d j) = aW m c j d := by
  show _ = m ((c : Thread nD τ).loc main_arg1) (ix2 d j)
  rw [← V_main_arg1 m c]; blk_ext [iblk, idx0_2 t]
theorem blk3 (t : Fin cfg0.N) (j : Fin 2112) : iblk m c 3 t (ix2 0 j) = aB m c j := by
  rw [← v_v14]; blk_ext [iblk, idx0_3 t]

/-! ## The stores over the blocks, in the model's terms -/

section Stores

variable (x0 : Vec Ideal S8192x7168 .bf16) (x1 : Vec Ideal S1x7168 .f32) (x2 : Vec Ideal S7168x2112 .bf16) (x3 : Vec Ideal S1x2112 .f32)
  (T : Fin 8192 → Fin 7168 → EReal) (W : Fin 2112 → Fin 7168 → EReal) (s : Fin 7168 → EReal) (B : Fin 2112 → EReal)
  (h0 : ∀ p d, x0 (ix2 p d) = T p d) (h1 : ∀ d, x1 (ix2 0 d) = s d) (h2 : ∀ d j, x2 (ix2 d j) = W j d) (h3 : ∀ j, x3 (ix2 0 j) = B j)
include h1

section W
include h2
theorem ws_of (j : Fin 2112) : k0_pay3 x1 x2 (ix2 0 j) = wsc (W j) s := by
  rw [Pay.wscl]
  unfold wsc
  exact congrArg scale (congrArg amax (funext fun d => congrArg₂ (· * ·) (h2 d j) (h1 d)))
theorem wc_of (d : Fin 7168) (j : Fin 2112) : k0_pay4 x1 x2 (ix2 d j) = Ideal.fptosi 8 (wcd (W j) s d) := by
  rw [Pay.wint, ← Pay.wscl, ws_of x1 x2 W s h1 h2, h2, h1]
  rfl
end W

section X
include h0
theorem xs_of (p : Fin 8192) : Pay.xs x1 x0 (ix2 p 0) = xsc (T p) s := by
  rw [Pay.xscl]
  unfold xsc
  exact congrArg scale (congrArg amax (funext fun d => congrArg₂ Ideal.div (h0 p d) (h1 d)))
theorem xc_of (p : Fin 8192) (d : Fin 7168) : Pay.xq x1 x0 (ix2 p d) = Ideal.fptosi 8 (xcd (T p) s d) := by
  rw [Pay.xint, ← Pay.xscl, xs_of x0 x1 T s h0 h1, h0, h1]
  rfl
end X

include h0 h2 h3
theorem z_of (p : Fin 8192) (j : Fin 2112) : Pay.zs x1 x2 x0 x3 (ix2 p j) = zval (T p) s (W j) (B j) := by
  rw [Pay.lin, ← Pay.xscl, ← Pay.wscl, xs_of x0 x1 T s h0 h1, ws_of x1 x2 W s h1 h2, h3]
  refine congrArg₂ (fun q w => linear q w (xsc (T p) s) (wsc (W j) s) (B j)) (funext fun d => ?_) (funext fun d => ?_)
  · exact congrArg (code · _) (congrArg₂ Ideal.div (h0 p d) (h1 d))
  · exact congrArg (code · _) (congrArg₂ (· * ·) (h2 d j) (h1 d))
theorem zs_of (p : Fin 8192) : k0_pay12 (k0_pay3 x1 x2) (k0_pay4 x1 x2) (k0_pay5 x1 x0) (k0_pay7 x1 x0) (k0_pay8 x1 x0)
    (Scalar.ofBits .f32 0x3F800000#32) x3 (ix2 p 0) = zsc fun j => zval (T p) s (W j) (B j) := by
  rw [Pay.zscl]
  exact congrArg scale (congrArg amax (funext fun j => z_of x0 x1 x2 x3 T W s B h0 h1 h2 h3 p j))
theorem zc_of (p : Fin 8192) (j : Fin 2112) : k0_pay13 (k0_pay3 x1 x2) (k0_pay4 x1 x2) (k0_pay5 x1 x0) (k0_pay7 x1 x0) (k0_pay8 x1 x0)
    (Scalar.ofBits .f32 0x3F800000#32) x3 (ix2 p j) = Ideal.fptosi 8 (zcd (fun j => zval (T p) s (W j) (B j)) j) := by
  rw [Pay.zint, ← Pay.zscl, zs_of x0 x1 x2 x3 T W s B h0 h1 h2 h3, z_of x0 x1 x2 x3 T W s B h0 h1 h2 h3]
  rfl

end Stores

/-! ## The output arrays -/

theorem arr4 : (dats m 0 c).arrAt 4 cfg0.N
    = fun i => Ideal.fptosi 8 (zcd (zs (aT m c) (aW m c) (aA m c) (aB m c) (i 0)) (i 1)) := by
  refine (dats m 0 c).arrAt_eq_of_after_last 4 t0_0 (by decide +kernel) _ fun i => ?_
  blk_simp
  rw [after0_4, st4]
  obtain ⟨p, j, rfl⟩ : ∃ (p : Fin 8192) (j : Fin 2112), i = ix2 p j := ⟨i 0, i 1, by funext a; fin_cases a <;> rfl⟩
  exact zc_of _ _ _ _ (aT m c) (aW m c) (sm (aT m c) (aA m c)) (aB m c) (blk0 m c t0_0) (blk1 m c t0_0) (blk2 m c t0_0) (blk3 m c t0_0) p j

theorem arr5 : (dats m 0 c).arrAt 5 cfg0.N = fun i => zsc (zs (aT m c) (aW m c) (aA m c) (aB m c) (i 0)) := by
  refine (dats m 0 c).arrAt_eq_of_after_last 5 t0_0 (by decide +kernel) _ fun i => ?_
  blk_simp
  rw [after0_5, st5]
  obtain ⟨p, rfl⟩ : ∃ p : Fin 8192, i = ix2 p 0 := ⟨i 0, by
    funext a; fin_cases a
    · rfl
    · exact Subsingleton.elim (α := Fin 1) _ _⟩
  exact zs_of _ _ _ _ (aT m c) (aW m c) (sm (aT m c) (aA m c)) (aB m c) (blk0 m c t0_0) (blk1 m c t0_0) (blk2 m c t0_0) (blk3 m c t0_0) p

theorem arr6 : (dats m 0 c).arrAt 6 cfg0.N = fun i => Ideal.fptosi 8 (wcd (aW m c (i 1)) (sm (aT m c) (aA m c)) (i 0)) := by
  refine (dats m 0 c).arrAt_eq_of_after_last 6 t0_0 (by decide +kernel) _ fun i => ?_
  blk_simp
  rw [after0_6, st6]
  obtain ⟨d, j, rfl⟩ : ∃ (d : Fin 7168) (j : Fin 2112), i = ix2 d j := ⟨i 0, i 1, by funext a; fin_cases a <;> rfl⟩
  exact wc_of _ _ (aW m c) (sm (aT m c) (aA m c)) (blk1 m c t0_0) (blk2 m c t0_0) d j

theorem arr7 : (dats m 0 c).arrAt 7 cfg0.N = fun i => wsc (aW m c (i 1)) (sm (aT m c) (aA m c)) := by
  refine (dats m 0 c).arrAt_eq_of_after_last 7 t0_0 (by decide +kernel) _ fun i => ?_
  blk_simp
  rw [after0_7, st7]
  obtain ⟨j, rfl⟩ : ∃ j : Fin 2112, i = ix2 0 j := ⟨i 1, by
    funext a; fin_cases a
    · exact Subsingleton.elim (α := Fin 1) _ _
    · rfl⟩
  exact ws_of _ _ (aW m c) (sm (aT m c) (aA m c)) (blk1 m c t0_0) (blk2 m c t0_0) j

theorem arr8 : (dats m 0 c).arrAt 8 cfg0.N = fun i => Ideal.fptosi 8 (xcd (aT m c (i 0)) (sm (aT m c) (aA m c)) (i 1)) := by
  refine (dats m 0 c).arrAt_eq_of_after_last 8 t0_0 (by decide +kernel) _ fun i => ?_
  blk_simp
  rw [after0_8, st8]
  obtain ⟨p, d, rfl⟩ : ∃ (p : Fin 8192) (d : Fin 7168), i = ix2 p d := ⟨i 0, i 1, by funext a; fin_cases a <;> rfl⟩
  exact xc_of _ _ (aT m c) (sm (aT m c) (aA m c)) (blk0 m c t0_0) (blk1 m c t0_0) p d

theorem arr9 : (dats m 0 c).arrAt 9 cfg0.N = fun i => xsc (aT m c (i 0)) (sm (aT m c) (aA m c)) := by
  refine (dats m 0 c).arrAt_eq_of_after_last 9 t0_0 (by decide +kernel) _ fun i => ?_
  blk_simp
  rw [after0_9, st9]
  obtain ⟨p, rfl⟩ : ∃ p : Fin 8192, i = ix2 p 0 := ⟨i 0, by
    funext a; fin_cases a
    · rfl
    · exact Subsingleton.elim (α := Fin 1) _ _⟩
  exact xs_of _ _ (aT m c) (sm (aT m c) (aA m c)) (blk0 m c t0_0) (blk1 m c t0_0) p

/-! ## The results -/

/-- What the lines after the call find: the call's arrays at what it leaves, every other buffer as it found it. -/
abbrev Wx : Valuation τ sig (Elt Ideal) := Pipeline.withArrays (cfgs 0).spec c (V0 m c) fun w => (dats m 0 c).arrAt w (cfgs 0).N
theorem Wx_arr (w : Fin cfg0.W) : Wx m c (Proc.devRef .tc (Pipeline.arrRef spec0 w)) = (dats m 0 c).arrAt w cfg0.N :=
  Pipeline.withArrays_arr spec0 launch0.win.arr_inj c _ _ w

theorem res1 : Pipeline.afterTail₀ cfgs (dats m) 0 (V0 m) [hostOps1] c main_v16 = m1 (aT m c) (aW m c) (aA m c) (aB m c) := by
  funext i
  obtain ⟨a, b, j, rfl⟩ : ∃ (a : Fin 16) (b : Fin 512) (j : Fin 2112), i = ix3 a b j := ⟨i 0, i 1, i 2, by funext a; fin_cases a <;> rfl⟩
  show StableHlo.after hostOps1 (Wx m c) (Proc.devRef .tc main_v16) (ix3 a b j) = _
  after_results
  rw [show Wx m c (Proc.devRef .tc main_v15_0) = _ from Wx_arr m c 4, arr4]
  exact split_tok _ _ a b j

theorem res2 : Pipeline.afterTail₀ cfgs (dats m) 0 (V0 m) [hostOps1] c main_v17 = m2 (aT m c) (aW m c) (aA m c) (aB m c) := by
  funext i
  obtain ⟨a, b, rfl⟩ : ∃ (a : Fin 16) (b : Fin 512), i = ix2 a b := ⟨i 0, i 1, by funext a; fin_cases a <;> rfl⟩
  show StableHlo.after hostOps1 (Wx m c) (Proc.devRef .tc main_v17) (ix2 a b) = _
  after_results
  rw [show Wx m c (Proc.devRef .tc main_v15_1) = _ from Wx_arr m c 5, arr5]
  exact split_col _ _ a b

theorem res3 : Pipeline.afterTail₀ cfgs (dats m) 0 (V0 m) [hostOps1] c main_v11 = m3 (aT m c) (aA m c) := by
  funext i
  obtain ⟨d, rfl⟩ : ∃ d : Fin 7168, i = ix1 d := ⟨i 0, by funext a; fin_cases a; rfl⟩
  show StableHlo.after hostOps1 (Wx m c) (Proc.devRef .tc main_v11) (ix1 d) = _
  after_results
  rw [show Wx m c (Proc.devRef .tc main_v11) = V m c main_v11 from
    Pipeline.withArrays_of_ne _ c (V0 m c) _ main_v11 (by exact (by decide : ∀ w, Pipeline.arrRef spec0 w ≠ main_v11)), v_v11]
  exact hostS_at (m ((c : Thread nD τ).loc main_arg0)) (m ((c : Thread nD τ).loc main_arg2)) d

theorem res4 : (dats m 0 c).arrAt 6 cfg0.N = m4 (aT m c) (aW m c) (aA m c) := arr6 m c

theorem res5 : Pipeline.afterTail₀ cfgs (dats m) 0 (V0 m) [hostOps1] c main_v18 = m5 (aT m c) (aW m c) (aA m c) := by
  funext i
  obtain ⟨j, rfl⟩ : ∃ j : Fin 2112, i = ix1 j := ⟨i 0, by funext a; fin_cases a; rfl⟩
  show StableHlo.after hostOps1 (Wx m c) (Proc.devRef .tc main_v18) (ix1 j) = _
  after_results
  rw [show Wx m c (Proc.devRef .tc main_v15_3) = _ from Wx_arr m c 7, arr7]
  pointwise
  rfl

theorem res6 : Pipeline.afterTail₀ cfgs (dats m) 0 (V0 m) [hostOps1] c main_v19 = m6 (aT m c) (aA m c) := by
  funext i
  obtain ⟨a, b, d, rfl⟩ : ∃ (a : Fin 16) (b : Fin 512) (d : Fin 7168), i = ix3 a b d := ⟨i 0, i 1, i 2, by funext a; fin_cases a <;> rfl⟩
  show StableHlo.after hostOps1 (Wx m c) (Proc.devRef .tc main_v19) (ix3 a b d) = _
  after_results
  rw [show Wx m c (Proc.devRef .tc main_v15_4) = _ from Wx_arr m c 8, arr8]
  exact split_tok _ _ a b d

theorem res7 : Pipeline.afterTail₀ cfgs (dats m) 0 (V0 m) [hostOps1] c main_v20 = m7 (aT m c) (aA m c) := by
  funext i
  obtain ⟨a, b, rfl⟩ : ∃ (a : Fin 16) (b : Fin 512), i = ix2 a b := ⟨i 0, i 1, by funext a; fin_cases a <;> rfl⟩
  show StableHlo.after hostOps1 (Wx m c) (Proc.devRef .tc main_v20) (ix2 a b) = _
  after_results
  rw [show Wx m c (Proc.devRef .tc main_v15_5) = _ from Wx_arr m c 9, arr9]
  exact split_col _ _ a b

end Cert.ReferenceIdeal.Out

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.RunBits.Run
public import proofs.«01_k».proof.Proof.RunIdeal.Run
public import proofs.«01_k».proof.Proof.Value.KernelHost
public import proofs.«01_k».proof.Proof.Value.RefRes
public import Idealize.ShloMosaic.Adequacy
public import Idealize.ShloMosaic.Init

@[expose] public section

noncomputable section

namespace Cert.Proof

open Idealize.ShloMosaic Idealize.SL.Sem Cert.Value

/-- The kernel as written runs to its end from any memory, leaves its arguments as they were and every counter at zero. -/
theorem frame_kernel : Cert.quiescent_Kernel := fun m g _ =>
  (θ_run (Cert.Kernel.defs (F := Bits)) _ _).mono (fun _ h => ⟨fun c =>
    ⟨(h.1 c _ (Cert.Kernel.Run.mem_uc Cert.Kernel.main_arg0 (by decide))).trans (Cert.Kernel.Run.W6_args m g c Cert.Kernel.main_arg0 (by decide)),
     (h.1 c _ (Cert.Kernel.Run.mem_uc Cert.Kernel.main_arg1 (by decide))).trans (Cert.Kernel.Run.W6_args m g c Cert.Kernel.main_arg1 (by decide)),
     (h.1 c _ (Cert.Kernel.Run.mem_uc Cert.Kernel.main_arg2 (by decide))).trans (Cert.Kernel.Run.W6_args m g c Cert.Kernel.main_arg2 (by decide)),
     (h.1 c _ (Cert.Kernel.Run.mem_uc Cert.Kernel.main_arg3 (by decide))).trans (Cert.Kernel.Run.W6_args m g c Cert.Kernel.main_arg3 (by decide))⟩, h.2⟩)
    (Cert.Kernel.Run.run_all m g)

/-- The kernel over the extended reals runs to its end from any memory, leaves its arguments as they were and every counter at zero. -/
theorem frame_kernel_ideal : Cert.quiescent_KernelIdeal := fun m g _ =>
  (θ_run (Cert.KernelIdeal.defs (F := Ideal)) _ _).mono (fun _ h => ⟨fun c =>
    ⟨(h.1 c _ (Cert.KernelIdeal.Run.mem_uc Cert.KernelIdeal.main_arg0 (by decide))).trans (Cert.KernelIdeal.Run.W6_args m g c Cert.KernelIdeal.main_arg0 (by decide)),
     (h.1 c _ (Cert.KernelIdeal.Run.mem_uc Cert.KernelIdeal.main_arg1 (by decide))).trans (Cert.KernelIdeal.Run.W6_args m g c Cert.KernelIdeal.main_arg1 (by decide)),
     (h.1 c _ (Cert.KernelIdeal.Run.mem_uc Cert.KernelIdeal.main_arg2 (by decide))).trans (Cert.KernelIdeal.Run.W6_args m g c Cert.KernelIdeal.main_arg2 (by decide)),
     (h.1 c _ (Cert.KernelIdeal.Run.mem_uc Cert.KernelIdeal.main_arg3 (by decide))).trans (Cert.KernelIdeal.Run.W6_args m g c Cert.KernelIdeal.main_arg3 (by decide))⟩, h.2⟩)
    (Cert.KernelIdeal.Run.run_all m g)

/-- Every run of the kernel over the extended reals ends with its seven results at the model's functions of its arguments. -/
theorem run_kernel (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
        r.2.mem ((c.tc : Thread Cert.KernelIdeal.nD Cert.KernelIdeal.τ).loc Cert.KernelIdeal.main_v7) = m1 (Cert.KernelIdeal.Out.aT m c) (Cert.KernelIdeal.Out.aW m c) (Cert.KernelIdeal.Out.aA m c) (Cert.KernelIdeal.Out.aB m c)
      ∧ r.2.mem ((c.tc : Thread Cert.KernelIdeal.nD Cert.KernelIdeal.τ).loc Cert.KernelIdeal.main_v8) = m2 (Cert.KernelIdeal.Out.aT m c) (Cert.KernelIdeal.Out.aW m c) (Cert.KernelIdeal.Out.aA m c) (Cert.KernelIdeal.Out.aB m c)
      ∧ r.2.mem ((c.tc : Thread Cert.KernelIdeal.nD Cert.KernelIdeal.τ).loc Cert.KernelIdeal.main_v9) = m3 (Cert.KernelIdeal.Out.aT m c) (Cert.KernelIdeal.Out.aA m c)
      ∧ r.2.mem ((c.tc : Thread Cert.KernelIdeal.nD Cert.KernelIdeal.τ).loc Cert.KernelIdeal.main_v10) = m4 (Cert.KernelIdeal.Out.aT m c) (Cert.KernelIdeal.Out.aW m c) (Cert.KernelIdeal.Out.aA m c)
      ∧ r.2.mem ((c.tc : Thread Cert.KernelIdeal.nD Cert.KernelIdeal.τ).loc Cert.KernelIdeal.main_v11) = m5 (Cert.KernelIdeal.Out.aT m c) (Cert.KernelIdeal.Out.aW m c) (Cert.KernelIdeal.Out.aA m c)
      ∧ r.2.mem ((c.tc : Thread Cert.KernelIdeal.nD Cert.KernelIdeal.τ).loc Cert.KernelIdeal.main_v12) = m6 (Cert.KernelIdeal.Out.aT m c) (Cert.KernelIdeal.Out.aA m c)
      ∧ r.2.mem ((c.tc : Thread Cert.KernelIdeal.nD Cert.KernelIdeal.τ).loc Cert.KernelIdeal.main_v13) = m7 (Cert.KernelIdeal.Out.aT m c) (Cert.KernelIdeal.Out.aA m c)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)) :=
  (θ_run (Cert.KernelIdeal.defs (F := Ideal)) _ _).mono (fun _ h c => ⟨
    (h.1 c _ (Cert.KernelIdeal.Run.mem_uc Cert.KernelIdeal.main_v7 (by decide))).trans (Cert.KernelIdeal.Out.res1 m g c),
    (h.1 c _ (Cert.KernelIdeal.Run.mem_uc Cert.KernelIdeal.main_v8 (by decide))).trans (Cert.KernelIdeal.Out.res2 m g c),
    (h.1 c _ (Cert.KernelIdeal.Run.mem_uc Cert.KernelIdeal.main_v9 (by decide))).trans (Cert.KernelIdeal.Out.res3 m g c),
    (h.1 c _ (Cert.KernelIdeal.Run.mem_uc Cert.KernelIdeal.main_v10 (by decide))).trans (Cert.KernelIdeal.Out.res4 m g c),
    (h.1 c _ (Cert.KernelIdeal.Run.mem_uc Cert.KernelIdeal.main_v11 (by decide))).trans (Cert.KernelIdeal.Out.res5 m g c),
    (h.1 c _ (Cert.KernelIdeal.Run.mem_uc Cert.KernelIdeal.main_v12 (by decide))).trans (Cert.KernelIdeal.Out.res6 m g c),
    (h.1 c _ (Cert.KernelIdeal.Run.mem_uc Cert.KernelIdeal.main_v13 (by decide))).trans (Cert.KernelIdeal.Out.res7 m g c),
    (h.1 c _ (Cert.KernelIdeal.Run.mem_uc Cert.KernelIdeal.main_arg0 (by decide))).trans (Cert.KernelIdeal.Run.W6_args m g c Cert.KernelIdeal.main_arg0 (by decide)),
    (h.1 c _ (Cert.KernelIdeal.Run.mem_uc Cert.KernelIdeal.main_arg1 (by decide))).trans (Cert.KernelIdeal.Run.W6_args m g c Cert.KernelIdeal.main_arg1 (by decide)),
    (h.1 c _ (Cert.KernelIdeal.Run.mem_uc Cert.KernelIdeal.main_arg2 (by decide))).trans (Cert.KernelIdeal.Run.W6_args m g c Cert.KernelIdeal.main_arg2 (by decide)),
    (h.1 c _ (Cert.KernelIdeal.Run.mem_uc Cert.KernelIdeal.main_arg3 (by decide))).trans (Cert.KernelIdeal.Run.W6_args m g c Cert.KernelIdeal.main_arg3 (by decide))⟩)
    (Cert.KernelIdeal.Run.run_all m g)

/-- Every run of the reference over the extended reals ends with its seven results at the same functions of its own arguments. -/
theorem run_reference (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
        r.2.mem ((c.tc : Thread Cert.ReferenceIdeal.nD Cert.ReferenceIdeal.τ).loc Cert.ReferenceIdeal.main_v16) = m1 (Cert.ReferenceIdeal.Out.aT m c) (Cert.ReferenceIdeal.Out.aW m c) (Cert.ReferenceIdeal.Out.aA m c) (Cert.ReferenceIdeal.Out.aB m c)
      ∧ r.2.mem ((c.tc : Thread Cert.ReferenceIdeal.nD Cert.ReferenceIdeal.τ).loc Cert.ReferenceIdeal.main_v17) = m2 (Cert.ReferenceIdeal.Out.aT m c) (Cert.ReferenceIdeal.Out.aW m c) (Cert.ReferenceIdeal.Out.aA m c) (Cert.ReferenceIdeal.Out.aB m c)
      ∧ r.2.mem ((c.tc : Thread Cert.ReferenceIdeal.nD Cert.ReferenceIdeal.τ).loc Cert.ReferenceIdeal.main_v11) = m3 (Cert.ReferenceIdeal.Out.aT m c) (Cert.ReferenceIdeal.Out.aA m c)
      ∧ r.2.mem ((c.tc : Thread Cert.ReferenceIdeal.nD Cert.ReferenceIdeal.τ).loc Cert.ReferenceIdeal.main_v15_2) = m4 (Cert.ReferenceIdeal.Out.aT m c) (Cert.ReferenceIdeal.Out.aW m c) (Cert.ReferenceIdeal.Out.aA m c)
      ∧ r.2.mem ((c.tc : Thread Cert.ReferenceIdeal.nD Cert.ReferenceIdeal.τ).loc Cert.ReferenceIdeal.main_v18) = m5 (Cert.ReferenceIdeal.Out.aT m c) (Cert.ReferenceIdeal.Out.aW m c) (Cert.ReferenceIdeal.Out.aA m c)
      ∧ r.2.mem ((c.tc : Thread Cert.ReferenceIdeal.nD Cert.ReferenceIdeal.τ).loc Cert.ReferenceIdeal.main_v19) = m6 (Cert.ReferenceIdeal.Out.aT m c) (Cert.ReferenceIdeal.Out.aA m c)
      ∧ r.2.mem ((c.tc : Thread Cert.ReferenceIdeal.nD Cert.ReferenceIdeal.τ).loc Cert.ReferenceIdeal.main_v20) = m7 (Cert.ReferenceIdeal.Out.aT m c) (Cert.ReferenceIdeal.Out.aA m c)
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)) :=
  (θ_run (Cert.ReferenceIdeal.defs (F := Ideal)) _ _).mono (fun _ h c => ⟨
    ((h c).2 Cert.ReferenceIdeal.main_v16 (Pipeline.mem_restRefs_of Cert.ReferenceIdeal.main_v16 (by decide) (by decide))).trans (Cert.ReferenceIdeal.Out.res1 m c),
    ((h c).2 Cert.ReferenceIdeal.main_v17 (Pipeline.mem_restRefs_of Cert.ReferenceIdeal.main_v17 (by decide) (by decide))).trans (Cert.ReferenceIdeal.Out.res2 m c),
    ((h c).2 Cert.ReferenceIdeal.main_v11 (Pipeline.mem_restRefs_of Cert.ReferenceIdeal.main_v11 (by decide) (by decide))).trans (Cert.ReferenceIdeal.Out.res3 m c),
    ((h c).1 6).trans (Cert.ReferenceIdeal.Out.res4 m c),
    ((h c).2 Cert.ReferenceIdeal.main_v18 (Pipeline.mem_restRefs_of Cert.ReferenceIdeal.main_v18 (by decide) (by decide))).trans (Cert.ReferenceIdeal.Out.res5 m c),
    ((h c).2 Cert.ReferenceIdeal.main_v19 (Pipeline.mem_restRefs_of Cert.ReferenceIdeal.main_v19 (by decide) (by decide))).trans (Cert.ReferenceIdeal.Out.res6 m c),
    ((h c).2 Cert.ReferenceIdeal.main_v20 (Pipeline.mem_restRefs_of Cert.ReferenceIdeal.main_v20 (by decide) (by decide))).trans (Cert.ReferenceIdeal.Out.res7 m c),
    ((h c).2 Cert.ReferenceIdeal.main_arg0 (Pipeline.mem_restRefs_of Cert.ReferenceIdeal.main_arg0 (by decide) (by decide))).trans (Cert.ReferenceIdeal.Gen.W_main_arg0 m (Cert.ReferenceIdeal.Gen.dats m) c),
    ((h c).1 2).trans (((Cert.ReferenceIdeal.Gen.dats m 0 c).arrAt_in 2 rfl _).trans ((Cert.ReferenceIdeal.Gen.A_eq m c 2).trans (Cert.ReferenceIdeal.Gen.V_main_arg1 m c))),
    ((h c).2 Cert.ReferenceIdeal.main_arg2 (Pipeline.mem_restRefs_of Cert.ReferenceIdeal.main_arg2 (by decide) (by decide))).trans (Cert.ReferenceIdeal.Gen.W_main_arg2 m (Cert.ReferenceIdeal.Gen.dats m) c),
    ((h c).2 Cert.ReferenceIdeal.main_arg3 (Pipeline.mem_restRefs_of Cert.ReferenceIdeal.main_arg3 (by decide) (by decide))).trans (Cert.ReferenceIdeal.Gen.W_main_arg3 m (Cert.ReferenceIdeal.Gen.dats m) c)⟩)
    (Cert.ReferenceIdeal.Gen.run_main m g)

/-- The kernel and the reference, from the same arguments, end with the same seven results over the extended reals. -/
theorem same_results : Cert.algebraic_KernelIdeal_ReferenceIdeal := by
  intro m g m' g' _ h
  have hT : ∀ c, Cert.ReferenceIdeal.Out.aT m' c = Cert.KernelIdeal.Out.aT m c := fun c => congrArg toks (h c).1
  have hW : ∀ c, Cert.ReferenceIdeal.Out.aW m' c = Cert.KernelIdeal.Out.aW m c := fun c => congrArg cols (h c).2.1
  have hA : ∀ c, Cert.ReferenceIdeal.Out.aA m' c = Cert.KernelIdeal.Out.aA m c := fun c => congrArg vals (h c).2.2.1
  have hB : ∀ c, Cert.ReferenceIdeal.Out.aB m' c = Cert.KernelIdeal.Out.aB m c := fun c => congrArg vals (h c).2.2.2
  have hr := run_reference m' g'
  simp only [hT, hW, hA, hB] at hr
  exact ⟨fun c => m1 (Cert.KernelIdeal.Out.aT m c) (Cert.KernelIdeal.Out.aW m c) (Cert.KernelIdeal.Out.aA m c) (Cert.KernelIdeal.Out.aB m c), fun c => m2 (Cert.KernelIdeal.Out.aT m c) (Cert.KernelIdeal.Out.aW m c) (Cert.KernelIdeal.Out.aA m c) (Cert.KernelIdeal.Out.aB m c), fun c => m3 (Cert.KernelIdeal.Out.aT m c) (Cert.KernelIdeal.Out.aA m c), fun c => m4 (Cert.KernelIdeal.Out.aT m c) (Cert.KernelIdeal.Out.aW m c) (Cert.KernelIdeal.Out.aA m c), fun c => m5 (Cert.KernelIdeal.Out.aT m c) (Cert.KernelIdeal.Out.aW m c) (Cert.KernelIdeal.Out.aA m c), fun c => m6 (Cert.KernelIdeal.Out.aT m c) (Cert.KernelIdeal.Out.aA m c), fun c => m7 (Cert.KernelIdeal.Out.aT m c) (Cert.KernelIdeal.Out.aA m c),
    run_kernel m g, hr⟩

/-- Everything the certificate claims. -/
theorem claim : Cert.Claim := ⟨Cert.Kernel.Gen.facts, Cert.KernelIdeal.Gen.facts, Cert.ReferenceIdeal.Gen.facts,
  frame_kernel, frame_kernel_ideal, fun m g _ => Cert.ReferenceIdeal.Gen.frame m g, trivial, same_results⟩

end Cert.Proof

end
